-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x4096x1024 : Shape := ⟨3, ![2, 4096, 1024]⟩
abbrev S1024 : Shape := ⟨1, ![1024]⟩
abbrev S1024x1024 : Shape := ⟨2, ![1024, 1024]⟩
abbrev S64x1024 : Shape := ⟨2, ![64, 1024]⟩
abbrev S8x1024x4096 : Shape := ⟨3, ![8, 1024, 4096]⟩
abbrev S8x4096 : Shape := ⟨2, ![8, 4096]⟩
abbrev S8x4096x1024 : Shape := ⟨3, ![8, 4096, 1024]⟩
abbrev S8x1024 : Shape := ⟨2, ![8, 1024]⟩
abbrev S2x8x512x1024 : Shape := ⟨4, ![2, 8, 512, 1024]⟩
abbrev S1x1024 : Shape := ⟨2, ![1, 1024]⟩
abbrev S8x1x4096 : Shape := ⟨3, ![8, 1, 4096]⟩
abbrev S8x1x1024 : Shape := ⟨3, ![8, 1, 1024]⟩
abbrev S2x1x512x1024 : Shape := ⟨4, ![2, 1, 512, 1024]⟩
abbrev S1x1x4096 : Shape := ⟨3, ![1, 1, 4096]⟩
abbrev S1x1x1024 : Shape := ⟨3, ![1, 1, 1024]⟩
abbrev S2x1024x1024 : Shape := ⟨3, ![2, 1024, 1024]⟩
abbrev S2 : Shape := ⟨1, ![2]⟩
abbrev S1 : Shape := ⟨1, ![1]⟩
abbrev S_ : Shape := ⟨0, ![]⟩
abbrev S1x1024x1024 : Shape := ⟨3, ![1, 1024, 1024]⟩
abbrev S1024x1 : Shape := ⟨2, ![1024, 1]⟩

abbrev nBuf : Space → Nat
  | .hbm => 21
  | .vmem => 16
  | .smem => 0
  | _ => 0

abbrev bufTy : (tb : Table) → Fin (tcTables nBuf tb) → BufTy
  | .hbm, ⟨0, _⟩ => ⟨S2x4096x1024, .f32⟩
  | .hbm, ⟨1, _⟩ => ⟨S1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S64x1024, .f32⟩
  | .hbm, ⟨6, _⟩ => ⟨S8x1024x4096, .f32⟩
  | .hbm, ⟨7, _⟩ => ⟨S8x4096, .f32⟩
  | .hbm, ⟨8, _⟩ => ⟨S8x4096x1024, .f32⟩
  | .hbm, ⟨9, _⟩ => ⟨S8x1024, .f32⟩
  | .hbm, ⟨10, _⟩ => ⟨S1024x1024, .f32⟩
  | .hbm, ⟨11, _⟩ => ⟨S1024, .f32⟩
  | .hbm, ⟨12, _⟩ => ⟨S2x8x512x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S8x1x4096, .f32⟩
  | .hbm, ⟨17, _⟩ => ⟨S8x1x1024, .f32⟩
  | .hbm, ⟨18, _⟩ => ⟨S1x1024, .f32⟩
  | .hbm, ⟨19, _⟩ => ⟨S2x8x512x1024, .f32⟩
  | .hbm, ⟨20, _⟩ => ⟨S2x4096x1024, .f32⟩
  | .local _ .vmem, ⟨0, _⟩ => ⟨S2x1x512x1024, .f32⟩
  | .local _ .vmem, ⟨1, _⟩ => ⟨S2x1x512x1024, .f32⟩
  | .local _ .vmem, ⟨2, _⟩ => ⟨S1x1024, .f32⟩
  | .local _ .vmem, ⟨3, _⟩ => ⟨S1x1024, .f32⟩
  | .local _ .vmem, ⟨4, _⟩ => ⟨S1024x1024, .f32⟩
  | .local _ .vmem, ⟨5, _⟩ => ⟨S1x1024, .f32⟩
  | .local _ .vmem, ⟨6, _⟩ => ⟨S1x1x4096, .f32⟩
  | .local _ .vmem, ⟨7, _⟩ => ⟨S1x1x4096, .f32⟩
  | .local _ .vmem, ⟨8, _⟩ => ⟨S1x1x1024, .f32⟩
  | .local _ .vmem, ⟨9, _⟩ => ⟨S1x1x1024, .f32⟩
  | .local _ .vmem, ⟨10, _⟩ => ⟨S1024x1024, .f32⟩
  | .local _ .vmem, ⟨11, _⟩ => ⟨S1x1024, .f32⟩
  | .local _ .vmem, ⟨12, _⟩ => ⟨S2x1x512x1024, .f32⟩
  | .local _ .vmem, ⟨13, _⟩ => ⟨S2x1x512x1024, .f32⟩
  | .local _ .vmem, ⟨14, _⟩ => ⟨S2x1024x1024, .f32⟩
  | .local _ .vmem, ⟨15, _⟩ => ⟨S2x1024x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![8], ![false]⟩

def k0_off1 (i : grid0.Coords) (c0_i32_17 : BitVec 32) : Fin 3 → Nat :=
  let arg0 : BitVec 32 := BitVec.ofNat 32 (i 0).val
  let c4_i32 : BitVec 32 := 4#32
  let v40 : BitVec 32 := Scalar.muli arg0 c4_i32
  let v41 : BitVec 32 := Scalar.addi v40 c0_i32_17
  let c0_i32_19 : BitVec 32 := 0#32
  let v43 : BitVec 1 := Scalar.cmpi .sgt v41 c0_i32_19
  let v44 : BitVec 32 := Scalar.extui v43
  let c0_i32_20 : BitVec 32 := 0#32
  let v45 : BitVec 1 := Scalar.cmpi .slt v41 c0_i32_20
  let v46 : BitVec 32 := Scalar.extui v45
  let v47 : BitVec 32 := Scalar.subi v44 v46
  let c4_i32_18 : BitVec 32 := 4#32
  let c0_i32_21 : BitVec 32 := 0#32
  let v48 : BitVec 1 := Scalar.cmpi .sgt c4_i32_18 c0_i32_21
  let v49 : BitVec 32 := Scalar.extui v48
  let c0_i32_22 : BitVec 32 := 0#32
  let v50 : BitVec 1 := Scalar.cmpi .slt c4_i32_18 c0_i32_22
  let v51 : BitVec 32 := Scalar.extui v50
  let v52 : BitVec 32 := Scalar.subi v49 v51
  let v53 : BitVec 1 := Scalar.cmpi .ne v47 v52
  let v54 : BitVec 32 := Scalar.remsi v41 c4_i32_18
  let c0_i32_23 : BitVec 32 := 0#32
  let v55 : BitVec 1 := Scalar.cmpi .ne v54 c0_i32_23
  let v56 : BitVec 1 := Scalar.andi v53 v55
  let v42 : BitVec 32 := Scalar.divsi v41 c4_i32_18
  let c1_i32 : BitVec 32 := 1#32
  let v57 : BitVec 32 := Scalar.subi v42 c1_i32
  let v58 : BitVec 32 := Scalar.select v56 v57 v42
  let c0_i32_34 : BitVec 32 := 0#32
  let c4_i32_24 : BitVec 32 := 4#32
  let c0_i32_25 : BitVec 32 := 0#32
  let v59 : BitVec 1 := Scalar.cmpi .eq c4_i32_24 c0_i32_25
  let c1_i32_26 : BitVec 32 := 1#32
  let v60 : BitVec 32 := Scalar.select v59 c1_i32_26 c4_i32_24
  let v61 : BitVec 32 := Scalar.remsi v41 v60
  let c0_i32_28 : BitVec 32 := 0#32
  let v63 : BitVec 1 := Scalar.cmpi .slt v61 c0_i32_28
  let c0_i32_29 : BitVec 32 := 0#32
  let v64 : BitVec 1 := Scalar.cmpi .slt v60 c0_i32_29
  let v65 : BitVec 1 := Scalar.xori v63 v64
  let c0_i32_27 : BitVec 32 := 0#32
  let v62 : BitVec 1 := Scalar.cmpi .ne v61 c0_i32_27
  let v66 : BitVec 1 := Scalar.andi v65 v62
  let v67 : BitVec 32 := Scalar.addi v61 v60
  let v68 : BitVec 32 := Scalar.select v66 v67 v61
  let c1024_i32 : BitVec 32 := 1024#32
  let v69 : BitVec 32 := Scalar.muli v68 c1024_i32
  ![v58.toNat, 0, v69.toNat]
def k0_off2 (i : grid0.Coords) (c0_i32_17 : BitVec 32) : Fin 3 → Nat :=
  let arg0 : BitVec 32 := BitVec.ofNat 32 (i 0).val
  let c4_i32 : BitVec 32 := 4#32
  let v40 : BitVec 32 := Scalar.muli arg0 c4_i32
  let v41 : BitVec 32 := Scalar.addi v40 c0_i32_17
  let c0_i32_46 : BitVec 32 := 0#32
  let v94 : BitVec 1 := Scalar.cmpi .sgt v41 c0_i32_46
  let v95 : BitVec 32 := Scalar.extui v94
  let c0_i32_47 : BitVec 32 := 0#32
  let v96 : BitVec 1 := Scalar.cmpi .slt v41 c0_i32_47
  let v97 : BitVec 32 := Scalar.extui v96
  let v98 : BitVec 32 := Scalar.subi v95 v97
  let c4_i32_45 : BitVec 32 := 4#32
  let c0_i32_48 : BitVec 32 := 0#32
  let v99 : BitVec 1 := Scalar.cmpi .sgt c4_i32_45 c0_i32_48
  let v100 : BitVec 32 := Scalar.extui v99
  let c0_i32_49 : BitVec 32 := 0#32
  let v101 : BitVec 1 := Scalar.cmpi .slt c4_i32_45 c0_i32_49
  let v102 : BitVec 32 := Scalar.extui v101
  let v103 : BitVec 32 := Scalar.subi v100 v102
  let v104 : BitVec 1 := Scalar.cmpi .ne v98 v103
  let v105 : BitVec 32 := Scalar.remsi v41 c4_i32_45
  let c0_i32_50 : BitVec 32 := 0#32
  let v106 : BitVec 1 := Scalar.cmpi .ne v105 c0_i32_50
  let v107 : BitVec 1 := Scalar.andi v104 v106
  let v93 : BitVec 32 := Scalar.divsi v41 c4_i32_45
  let c1_i32_51 : BitVec 32 := 1#32
  let v108 : BitVec 32 := Scalar.subi v93 c1_i32_51
  let v109 : BitVec 32 := Scalar.select v107 v108 v93
  let c4_i32_52 : BitVec 32 := 4#32
  let c0_i32_53 : BitVec 32 := 0#32
  let v110 : BitVec 1 := Scalar.cmpi .eq c4_i32_52 c0_i32_53
  let c1_i32_54 : BitVec 32 := 1#32
  let v111 : BitVec 32 := Scalar.select v110 c1_i32_54 c4_i32_52
  let v112 : BitVec 32 := Scalar.remsi v41 v111
  let c0_i32_56 : BitVec 32 := 0#32
  let v114 : BitVec 1 := Scalar.cmpi .slt v112 c0_i32_56
  let c0_i32_57 : BitVec 32 := 0#32
  let v115 : BitVec 1 := Scalar.cmpi .slt v111 c0_i32_57
  let v116 : BitVec 1 := Scalar.xori v114 v115
  let c0_i32_55 : BitVec 32 := 0#32
  let v113 : BitVec 1 := Scalar.cmpi .ne v112 c0_i32_55
  let v117 : BitVec 1 := Scalar.andi v116 v113
  let v118 : BitVec 32 := Scalar.addi v112 v111
  let v119 : BitVec 32 := Scalar.select v117 v118 v112
  let c1024_i32_58 : BitVec 32 := 1024#32
  let v120 : BitVec 32 := Scalar.muli v119 c1024_i32_58
  let c0_i32_63 : BitVec 32 := 0#32
  ![v109.toNat, v120.toNat, 0]
def k0_off3 (i : grid0.Coords) (c0_i32_17 : BitVec 32) : Fin 3 → Nat :=
  let arg0 : BitVec 32 := BitVec.ofNat 32 (i 0).val
  let c4_i32 : BitVec 32 := 4#32
  let v40 : BitVec 32 := Scalar.muli arg0 c4_i32
  let v41 : BitVec 32 := Scalar.addi v40 c0_i32_17
  let c2_i32 : BitVec 32 := 2#32
  let v132 : BitVec 32 := Scalar.addi v41 c2_i32
  let c0_i32_69 : BitVec 32 := 0#32
  let v134 : BitVec 1 := Scalar.cmpi .sgt v132 c0_i32_69
  let v135 : BitVec 32 := Scalar.extui v134
  let c0_i32_70 : BitVec 32 := 0#32
  let v136 : BitVec 1 := Scalar.cmpi .slt v132 c0_i32_70
  let v137 : BitVec 32 := Scalar.extui v136
  let v138 : BitVec 32 := Scalar.subi v135 v137
  let c4_i32_68 : BitVec 32 := 4#32
  let c0_i32_71 : BitVec 32 := 0#32
  let v139 : BitVec 1 := Scalar.cmpi .sgt c4_i32_68 c0_i32_71
  let v140 : BitVec 32 := Scalar.extui v139
  let c0_i32_72 : BitVec 32 := 0#32
  let v141 : BitVec 1 := Scalar.cmpi .slt c4_i32_68 c0_i32_72
  let v142 : BitVec 32 := Scalar.extui v141
  let v143 : BitVec 32 := Scalar.subi v140 v142
  let v144 : BitVec 1 := Scalar.cmpi .ne v138 v143
  let v145 : BitVec 32 := Scalar.remsi v132 c4_i32_68
  let c0_i32_73 : BitVec 32 := 0#32
  let v146 : BitVec 1 := Scalar.cmpi .ne v145 c0_i32_73
  let v147 : BitVec 1 := Scalar.andi v144 v146
  let v133 : BitVec 32 := Scalar.divsi v132 c4_i32_68
  let c1_i32_74 : BitVec 32 := 1#32
  let v148 : BitVec 32 := Scalar.subi v133 c1_i32_74
  let v149 : BitVec 32 := Scalar.select v147 v148 v133
  let c0_i32_86 : BitVec 32 := 0#32
  let c4_i32_75 : BitVec 32 := 4#32
  let c0_i32_76 : BitVec 32 := 0#32
  let v150 : BitVec 1 := Scalar.cmpi .eq c4_i32_75 c0_i32_76
  let c1_i32_77 : BitVec 32 := 1#32
  let v151 : BitVec 32 := Scalar.select v150 c1_i32_77 c4_i32_75
  let v152 : BitVec 32 := Scalar.remsi v132 v151
  let c0_i32_79 : BitVec 32 := 0#32
  let v154 : BitVec 1 := Scalar.cmpi .slt v152 c0_i32_79
  let c0_i32_80 : BitVec 32 := 0#32
  let v155 : BitVec 1 := Scalar.cmpi .slt v151 c0_i32_80
  let v156 : BitVec 1 := Scalar.xori v154 v155
  let c0_i32_78 : BitVec 32 := 0#32
  let v153 : BitVec 1 := Scalar.cmpi .ne v152 c0_i32_78
  let v157 : BitVec 1 := Scalar.andi v156 v153
  let v158 : BitVec 32 := Scalar.addi v152 v151
  let v159 : BitVec 32 := Scalar.select v157 v158 v152
  let c1024_i32_81 : BitVec 32 := 1024#32
  let v160 : BitVec 32 := Scalar.muli v159 c1024_i32_81
  ![v149.toNat, 0, v160.toNat]
def k0_off4 (i : grid0.Coords) (c0_i32_17 : BitVec 32) : Fin 3 → Nat :=
  let arg0 : BitVec 32 := BitVec.ofNat 32 (i 0).val
  let c4_i32 : BitVec 32 := 4#32
  let v40 : BitVec 32 := Scalar.muli arg0 c4_i32
  let v41 : BitVec 32 := Scalar.addi v40 c0_i32_17
  let c2_i32 : BitVec 32 := 2#32
  let v132 : BitVec 32 := Scalar.addi v41 c2_i32
  let c0_i32_88 : BitVec 32 := 0#32
  let v168 : BitVec 1 := Scalar.cmpi .sgt v132 c0_i32_88
  let v169 : BitVec 32 := Scalar.extui v168
  let c0_i32_89 : BitVec 32 := 0#32
  let v170 : BitVec 1 := Scalar.cmpi .slt v132 c0_i32_89
  let v171 : BitVec 32 := Scalar.extui v170
  let v172 : BitVec 32 := Scalar.subi v169 v171
  let c4_i32_87 : BitVec 32 := 4#32
  let c0_i32_90 : BitVec 32 := 0#32
  let v173 : BitVec 1 := Scalar.cmpi .sgt c4_i32_87 c0_i32_90
  let v174 : BitVec 32 := Scalar.extui v173
  let c0_i32_91 : BitVec 32 := 0#32
  let v175 : BitVec 1 := Scalar.cmpi .slt c4_i32_87 c0_i32_91
  let v176 : BitVec 32 := Scalar.extui v175
  let v177 : BitVec 32 := Scalar.subi v174 v176
  let v178 : BitVec 1 := Scalar.cmpi .ne v172 v177
  let v179 : BitVec 32 := Scalar.remsi v132 c4_i32_87
  let c0_i32_92 : BitVec 32 := 0#32
  let v180 : BitVec 1 := Scalar.cmpi .ne v179 c0_i32_92
  let v181 : BitVec 1 := Scalar.andi v178 v180
  let v167 : BitVec 32 := Scalar.divsi v132 c4_i32_87
  let c1_i32_93 : BitVec 32 := 1#32
  let v182 : BitVec 32 := Scalar.subi v167 c1_i32_93
  let v183 : BitVec 32 := Scalar.select v181 v182 v167
  let c4_i32_94 : BitVec 32 := 4#32
  let c0_i32_95 : BitVec 32 := 0#32
  let v184 : BitVec 1 := Scalar.cmpi .eq c4_i32_94 c0_i32_95
  let c1_i32_96 : BitVec 32 := 1#32
  let v185 : BitVec 32 := Scalar.select v184 c1_i32_96 c4_i32_94
  let v186 : BitVec 32 := Scalar.remsi v132 v185
  let c0_i32_98 : BitVec 32 := 0#32
  let v188 : BitVec 1 := Scalar.cmpi .slt v186 c0_i32_98
  let c0_i32_99 : BitVec 32 := 0#32
  let v189 : BitVec 1 := Scalar.cmpi .slt v185 c0_i32_99
  let v190 : BitVec 1 := Scalar.xori v188 v189
  let c0_i32_97 : BitVec 32 := 0#32
  let v187 : BitVec 1 := Scalar.cmpi .ne v186 c0_i32_97
  let v191 : BitVec 1 := Scalar.andi v190 v187
  let v192 : BitVec 32 := Scalar.addi v186 v185
  let v193 : BitVec 32 := Scalar.select v191 v192 v186
  let c1024_i32_100 : BitVec 32 := 1024#32
  let v194 : BitVec 32 := Scalar.muli v193 c1024_i32_100
  let c0_i32_105 : BitVec 32 := 0#32
  ![v183.toNat, v194.toNat, 0]
def k0_cond2 (i : grid0.Coords) : BitVec 1 :=
  let arg0 : BitVec 32 := BitVec.ofNat 32 (i 0).val
  let c1_i32_250 : BitVec 32 := 1#32
  let v456 : BitVec 32 := Scalar.addi arg0 c1_i32_250
  let c8_i32 : BitVec 32 := 8#32
  let v457 : BitVec 1 := Scalar.cmpi .slt v456 c8_i32
  let v458 : BitVec 32 := Scalar.extui v457
  let c0_i32_251 : BitVec 32 := 0#32
  let v459 : BitVec 1 := Scalar.cmpi .ne v458 c0_i32_251
  v459

def k0_off5 (i : grid0.Coords) : Fin 3 → Nat :=
  let arg0 : BitVec 32 := BitVec.ofNat 32 (i 0).val
  let c4_i32_197 : BitVec 32 := 4#32
  let v363 : BitVec 32 := Scalar.muli arg0 c4_i32_197
  let c2_i32_198 : BitVec 32 := 2#32
  let v364 : BitVec 32 := Scalar.addi v363 c2_i32_198
  let c2_i32_322 : BitVec 32 := 2#32
  let v579 : BitVec 32 := Scalar.addi v364 c2_i32_322
  let c0_i32_324 : BitVec 32 := 0#32
  let v581 : BitVec 1 := Scalar.cmpi .sgt v579 c0_i32_324
  let v582 : BitVec 32 := Scalar.extui v581
  let c0_i32_325 : BitVec 32 := 0#32
  let v583 : BitVec 1 := Scalar.cmpi .slt v579 c0_i32_325
  let v584 : BitVec 32 := Scalar.extui v583
  let v585 : BitVec 32 := Scalar.subi v582 v584
  let c4_i32_323 : BitVec 32 := 4#32
  let c0_i32_326 : BitVec 32 := 0#32
  let v586 : BitVec 1 := Scalar.cmpi .sgt c4_i32_323 c0_i32_326
  let v587 : BitVec 32 := Scalar.extui v586
  let c0_i32_327 : BitVec 32 := 0#32
  let v588 : BitVec 1 := Scalar.cmpi .slt c4_i32_323 c0_i32_327
  let v589 : BitVec 32 := Scalar.extui v588
  let v590 : BitVec 32 := Scalar.subi v587 v589
  let v591 : BitVec 1 := Scalar.cmpi .ne v585 v590
  let v592 : BitVec 32 := Scalar.remsi v579 c4_i32_323
  let c0_i32_328 : BitVec 32 := 0#32
  let v593 : BitVec 1 := Scalar.cmpi .ne v592 c0_i32_328
  let v594 : BitVec 1 := Scalar.andi v591 v593
  let v580 : BitVec 32 := Scalar.divsi v579 c4_i32_323
  let c1_i32_329 : BitVec 32 := 1#32
  let v595 : BitVec 32 := Scalar.subi v580 c1_i32_329
  let v596 : BitVec 32 := Scalar.select v594 v595 v580
  let c0_i32_341 : BitVec 32 := 0#32
  let c4_i32_330 : BitVec 32 := 4#32
  let c0_i32_331 : BitVec 32 := 0#32
  let v597 : BitVec 1 := Scalar.cmpi .eq c4_i32_330 c0_i32_331
  let c1_i32_332 : BitVec 32 := 1#32
  let v598 : BitVec 32 := Scalar.select v597 c1_i32_332 c4_i32_330
  let v599 : BitVec 32 := Scalar.remsi v579 v598
  let c0_i32_334 : BitVec 32 := 0#32
  let v601 : BitVec 1 := Scalar.cmpi .slt v599 c0_i32_334
  let c0_i32_335 : BitVec 32 := 0#32
  let v602 : BitVec 1 := Scalar.cmpi .slt v598 c0_i32_335
  let v603 : BitVec 1 := Scalar.xori v601 v602
  let c0_i32_333 : BitVec 32 := 0#32
  let v600 : BitVec 1 := Scalar.cmpi .ne v599 c0_i32_333
  let v604 : BitVec 1 := Scalar.andi v603 v600
  let v605 : BitVec 32 := Scalar.addi v599 v598
  let v606 : BitVec 32 := Scalar.select v604 v605 v599
  let c1024_i32_336 : BitVec 32 := 1024#32
  let v607 : BitVec 32 := Scalar.muli v606 c1024_i32_336
  ![v596.toNat, 0, v607.toNat]
def k0_off6 (i : grid0.Coords) : Fin 3 → Nat :=
  let arg0 : BitVec 32 := BitVec.ofNat 32 (i 0).val
  let c4_i32_197 : BitVec 32 := 4#32
  let v363 : BitVec 32 := Scalar.muli arg0 c4_i32_197
  let c2_i32_198 : BitVec 32 := 2#32
  let v364 : BitVec 32 := Scalar.addi v363 c2_i32_198
  let c2_i32_322 : BitVec 32 := 2#32
  let v579 : BitVec 32 := Scalar.addi v364 c2_i32_322
  let c0_i32_343 : BitVec 32 := 0#32
  let v615 : BitVec 1 := Scalar.cmpi .sgt v579 c0_i32_343
  let v616 : BitVec 32 := Scalar.extui v615
  let c0_i32_344 : BitVec 32 := 0#32
  let v617 : BitVec 1 := Scalar.cmpi .slt v579 c0_i32_344
  let v618 : BitVec 32 := Scalar.extui v617
  let v619 : BitVec 32 := Scalar.subi v616 v618
  let c4_i32_342 : BitVec 32 := 4#32
  let c0_i32_345 : BitVec 32 := 0#32
  let v620 : BitVec 1 := Scalar.cmpi .sgt c4_i32_342 c0_i32_345
  let v621 : BitVec 32 := Scalar.extui v620
  let c0_i32_346 : BitVec 32 := 0#32
  let v622 : BitVec 1 := Scalar.cmpi .slt c4_i32_342 c0_i32_346
  let v623 : BitVec 32 := Scalar.extui v622
  let v624 : BitVec 32 := Scalar.subi v621 v623
  let v625 : BitVec 1 := Scalar.cmpi .ne v619 v624
  let v626 : BitVec 32 := Scalar.remsi v579 c4_i32_342
  let c0_i32_347 : BitVec 32 := 0#32
  let v627 : BitVec 1 := Scalar.cmpi .ne v626 c0_i32_347
  let v628 : BitVec 1 := Scalar.andi v625 v627
  let v614 : BitVec 32 := Scalar.divsi v579 c4_i32_342
  let c1_i32_348 : BitVec 32 := 1#32
  let v629 : BitVec 32 := Scalar.subi v614 c1_i32_348
  let v630 : BitVec 32 := Scalar.select v628 v629 v614
  let c4_i32_349 : BitVec 32 := 4#32
  let c0_i32_350 : BitVec 32 := 0#32
  let v631 : BitVec 1 := Scalar.cmpi .eq c4_i32_349 c0_i32_350
  let c1_i32_351 : BitVec 32 := 1#32
  let v632 : BitVec 32 := Scalar.select v631 c1_i32_351 c4_i32_349
  let v633 : BitVec 32 := Scalar.remsi v579 v632
  let c0_i32_353 : BitVec 32 := 0#32
  let v635 : BitVec 1 := Scalar.cmpi .slt v633 c0_i32_353
  let c0_i32_354 : BitVec 32 := 0#32
  let v636 : BitVec 1 := Scalar.cmpi .slt v632 c0_i32_354
  let v637 : BitVec 1 := Scalar.xori v635 v636
  let c0_i32_352 : BitVec 32 := 0#32
  let v634 : BitVec 1 := Scalar.cmpi .ne v633 c0_i32_352
  let v638 : BitVec 1 := Scalar.andi v637 v634
  let v639 : BitVec 32 := Scalar.addi v633 v632
  let v640 : BitVec 32 := Scalar.select v638 v639 v633
  let c1024_i32_355 : BitVec 32 := 1024#32
  let v641 : BitVec 32 := Scalar.muli v640 c1024_i32_355
  let c0_i32_360 : BitVec 32 := 0#32
  ![v630.toNat, v641.toNat, 0]
def k0_cond3 (i : grid0.Coords) : BitVec 1 :=
  let arg0 : BitVec 32 := BitVec.ofNat 32 (i 0).val
  let c1_i32_304 : BitVec 32 := 1#32
  let v553 : BitVec 32 := Scalar.addi arg0 c1_i32_304
  let c8_i32_305 : BitVec 32 := 8#32
  let v554 : BitVec 1 := Scalar.cmpi .slt v553 c8_i32_305
  let v555 : BitVec 32 := Scalar.extui v554
  let c0_i32_306 : BitVec 32 := 0#32
  let v556 : BitVec 1 := Scalar.cmpi .ne v555 c0_i32_306
  v556

def k0_off7 (i : grid0.Coords) : Fin 3 → Nat :=
  let arg0 : BitVec 32 := BitVec.ofNat 32 (i 0).val
  let c4_i32_252 : BitVec 32 := 4#32
  let v460 : BitVec 32 := Scalar.muli arg0 c4_i32_252
  let c3_i32 : BitVec 32 := 3#32
  let v461 : BitVec 32 := Scalar.addi v460 c3_i32
  let c2_i32_322 : BitVec 32 := 2#32
  let v579 : BitVec 32 := Scalar.addi v461 c2_i32_322
  let c0_i32_324 : BitVec 32 := 0#32
  let v581 : BitVec 1 := Scalar.cmpi .sgt v579 c0_i32_324
  let v582 : BitVec 32 := Scalar.extui v581
  let c0_i32_325 : BitVec 32 := 0#32
  let v583 : BitVec 1 := Scalar.cmpi .slt v579 c0_i32_325
  let v584 : BitVec 32 := Scalar.extui v583
  let v585 : BitVec 32 := Scalar.subi v582 v584
  let c4_i32_323 : BitVec 32 := 4#32
  let c0_i32_326 : BitVec 32 := 0#32
  let v586 : BitVec 1 := Scalar.cmpi .sgt c4_i32_323 c0_i32_326
  let v587 : BitVec 32 := Scalar.extui v586
  let c0_i32_327 : BitVec 32 := 0#32
  let v588 : BitVec 1 := Scalar.cmpi .slt c4_i32_323 c0_i32_327
  let v589 : BitVec 32 := Scalar.extui v588
  let v590 : BitVec 32 := Scalar.subi v587 v589
  let v591 : BitVec 1 := Scalar.cmpi .ne v585 v590
  let v592 : BitVec 32 := Scalar.remsi v579 c4_i32_323
  let c0_i32_328 : BitVec 32 := 0#32
  let v593 : BitVec 1 := Scalar.cmpi .ne v592 c0_i32_328
  let v594 : BitVec 1 := Scalar.andi v591 v593
  let v580 : BitVec 32 := Scalar.divsi v579 c4_i32_323
  let c1_i32_329 : BitVec 32 := 1#32
  let v595 : BitVec 32 := Scalar.subi v580 c1_i32_329
  let v596 : BitVec 32 := Scalar.select v594 v595 v580
  let c0_i32_341 : BitVec 32 := 0#32
  let c4_i32_330 : BitVec 32 := 4#32
  let c0_i32_331 : BitVec 32 := 0#32
  let v597 : BitVec 1 := Scalar.cmpi .eq c4_i32_330 c0_i32_331
  let c1_i32_332 : BitVec 32 := 1#32
  let v598 : BitVec 32 := Scalar.select v597 c1_i32_332 c4_i32_330
  let v599 : BitVec 32 := Scalar.remsi v579 v598
  let c0_i32_334 : BitVec 32 := 0#32
  let v601 : BitVec 1 := Scalar.cmpi .slt v599 c0_i32_334
  let c0_i32_335 : BitVec 32 := 0#32
  let v602 : BitVec 1 := Scalar.cmpi .slt v598 c0_i32_335
  let v603 : BitVec 1 := Scalar.xori v601 v602
  let c0_i32_333 : BitVec 32 := 0#32
  let v600 : BitVec 1 := Scalar.cmpi .ne v599 c0_i32_333
  let v604 : BitVec 1 := Scalar.andi v603 v600
  let v605 : BitVec 32 := Scalar.addi v599 v598
  let v606 : BitVec 32 := Scalar.select v604 v605 v599
  let c1024_i32_336 : BitVec 32 := 1024#32
  let v607 : BitVec 32 := Scalar.muli v606 c1024_i32_336
  ![v596.toNat, 0, v607.toNat]
def k0_off8 (i : grid0.Coords) : Fin 3 → Nat :=
  let arg0 : BitVec 32 := BitVec.ofNat 32 (i 0).val
  let c4_i32_252 : BitVec 32 := 4#32
  let v460 : BitVec 32 := Scalar.muli arg0 c4_i32_252
  let c3_i32 : BitVec 32 := 3#32
  let v461 : BitVec 32 := Scalar.addi v460 c3_i32
  let c2_i32_322 : BitVec 32 := 2#32
  let v579 : BitVec 32 := Scalar.addi v461 c2_i32_322
  let c0_i32_343 : BitVec 32 := 0#32
  let v615 : BitVec 1 := Scalar.cmpi .sgt v579 c0_i32_343
  let v616 : BitVec 32 := Scalar.extui v615
  let c0_i32_344 : BitVec 32 := 0#32
  let v617 : BitVec 1 := Scalar.cmpi .slt v579 c0_i32_344
  let v618 : BitVec 32 := Scalar.extui v617
  let v619 : BitVec 32 := Scalar.subi v616 v618
  let c4_i32_342 : BitVec 32 := 4#32
  let c0_i32_345 : BitVec 32 := 0#32
  let v620 : BitVec 1 := Scalar.cmpi .sgt c4_i32_342 c0_i32_345
  let v621 : BitVec 32 := Scalar.extui v620
  let c0_i32_346 : BitVec 32 := 0#32
  let v622 : BitVec 1 := Scalar.cmpi .slt c4_i32_342 c0_i32_346
  let v623 : BitVec 32 := Scalar.extui v622
  let v624 : BitVec 32 := Scalar.subi v621 v623
  let v625 : BitVec 1 := Scalar.cmpi .ne v619 v624
  let v626 : BitVec 32 := Scalar.remsi v579 c4_i32_342
  let c0_i32_347 : BitVec 32 := 0#32
  let v627 : BitVec 1 := Scalar.cmpi .ne v626 c0_i32_347
  let v628 : BitVec 1 := Scalar.andi v625 v627
  let v614 : BitVec 32 := Scalar.divsi v579 c4_i32_342
  let c1_i32_348 : BitVec 32 := 1#32
  let v629 : BitVec 32 := Scalar.subi v614 c1_i32_348
  let v630 : BitVec 32 := Scalar.select v628 v629 v614
  let c4_i32_349 : BitVec 32 := 4#32
  let c0_i32_350 : BitVec 32 := 0#32
  let v631 : BitVec 1 := Scalar.cmpi .eq c4_i32_349 c0_i32_350
  let c1_i32_351 : BitVec 32 := 1#32
  let v632 : BitVec 32 := Scalar.select v631 c1_i32_351 c4_i32_349
  let v633 : BitVec 32 := Scalar.remsi v579 v632
  let c0_i32_353 : BitVec 32 := 0#32
  let v635 : BitVec 1 := Scalar.cmpi .slt v633 c0_i32_353
  let c0_i32_354 : BitVec 32 := 0#32
  let v636 : BitVec 1 := Scalar.cmpi .slt v632 c0_i32_354
  let v637 : BitVec 1 := Scalar.xori v635 v636
  let c0_i32_352 : BitVec 32 := 0#32
  let v634 : BitVec 1 := Scalar.cmpi .ne v633 c0_i32_352
  let v638 : BitVec 1 := Scalar.andi v637 v634
  let v639 : BitVec 32 := Scalar.addi v633 v632
  let v640 : BitVec 32 := Scalar.select v638 v639 v633
  let c1024_i32_355 : BitVec 32 := 1024#32
  let v641 : BitVec 32 := Scalar.muli v640 c1024_i32_355
  let c0_i32_360 : BitVec 32 := 0#32
  ![v630.toNat, v641.toNat, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S2x1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2x1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S2x4096x1024 : Shape := ⟨3, ![2, 4096, 1024]⟩
abbrev S1024 : Shape := ⟨1, ![1024]⟩
abbrev S1024x1024 : Shape := ⟨2, ![1024, 1024]⟩
abbrev S64x1024 : Shape := ⟨2, ![64, 1024]⟩
abbrev S8x1024x4096 : Shape := ⟨3, ![8, 1024, 4096]⟩
abbrev S8x4096 : Shape := ⟨2, ![8, 4096]⟩
abbrev S8x4096x1024 : Shape := ⟨3, ![8, 4096, 1024]⟩
abbrev S8x1024 : Shape := ⟨2, ![8, 1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x64 : Shape := ⟨2, ![1024, 64]⟩
abbrev S8192x64 : Shape := ⟨2, ![8192, 64]⟩
abbrev S8192x2 : Shape := ⟨2, ![8192, 2]⟩
abbrev S2x8x512x1024 : Shape := ⟨4, ![2, 8, 512, 1024]⟩
abbrev S8x4096x2x512 : Shape := ⟨4, ![8, 4096, 2, 512]⟩
abbrev S2x8x512x4096 : Shape := ⟨4, ![2, 8, 512, 4096]⟩
abbrev S1x8x1x4096 : Shape := ⟨4, ![1, 8, 1, 4096]⟩
abbrev S8x1024x2x512 : Shape := ⟨4, ![8, 1024, 2, 512]⟩
abbrev S1x8x1x1024 : Shape := ⟨4, ![1, 8, 1, 1024]⟩

abbrev nBuf : Space → Nat
  | .hbm => 103
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S64x1024, .f32⟩
  | .hbm, ⟨6, _⟩ => ⟨S8x1024x4096, .f32⟩
  | .hbm, ⟨7, _⟩ => ⟨S8x4096, .f32⟩
  | .hbm, ⟨8, _⟩ => ⟨S8x4096x1024, .f32⟩
  | .hbm, ⟨9, _⟩ => ⟨S8x1024, .f32⟩
  | .hbm, ⟨10, _⟩ => ⟨S1024x1024, .f32⟩
  | .hbm, ⟨11, _⟩ => ⟨S1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .i32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S_, .f32⟩
  | .hbm, ⟨38, _⟩ => ⟨S_, .i1⟩
  | .hbm, ⟨39, _⟩ => ⟨S_, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S8192x1, .f32⟩
  | .hbm, ⟨49, _⟩ => ⟨S8192x1024, .f32⟩
  | .hbm, ⟨50, _⟩ => ⟨S8192x1024, .f32⟩
  | .hbm, ⟨51, _⟩ => ⟨S1x1024, .f32⟩
  | .hbm, ⟨52, _⟩ => ⟨S8192x1024, .f32⟩
  | .hbm, ⟨53, _⟩ => ⟨S8192x1024, .f32⟩
  | .hbm, ⟨54, _⟩ => ⟨S1x1024, .f32⟩
  | .hbm, ⟨55, _⟩ => ⟨S8192x1024, .f32⟩
  | .hbm, ⟨56, _⟩ => ⟨S8192x1024, .f32⟩
  | .hbm, ⟨57, _⟩ => ⟨S1024x1024, .f32⟩
  | .hbm, ⟨58, _⟩ => ⟨S8192x1024, .f32⟩
  | .hbm, ⟨59, _⟩ => ⟨S1x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S1024x64, .f32⟩
  | .hbm, ⟨64, _⟩ => ⟨S8192x64, .f32⟩
  | .hbm, ⟨65, _⟩ => ⟨S8192x2, .f32⟩
  | .hbm, ⟨66, _⟩ => ⟨S8192x2, .i32⟩
  | .hbm, ⟨67, _⟩ => ⟨S2x8x512x1024, .f32⟩
  | .hbm, ⟨68, _⟩ => ⟨S8x4096x2x512, .f32⟩
  | .hbm, ⟨69, _⟩ => ⟨S2x8x512x4096, .f32⟩
  | .hbm, ⟨70, _⟩ => ⟨S1x8x1x4096, .f32⟩
  | .hbm, ⟨71, _⟩ => ⟨S2x8x512x4096, .f32⟩
  | .hbm, ⟨72, _⟩ => ⟨S2x8x512x4096, .f32⟩
  | .hbm, ⟨73, _⟩ => ⟨S_, .f32⟩
  | .hbm, ⟨74, _⟩ => ⟨S2x8x512x4096, .f32⟩
  | .hbm, ⟨75, _⟩ => ⟨S2x8x512x4096, .f32⟩
  | .hbm, ⟨76, _⟩ => ⟨S2x8x512x4096, .f32⟩
  | .hbm, ⟨77, _⟩ => ⟨S_, .f32⟩
  | .hbm, ⟨78, _⟩ => ⟨S2x8x512x4096, .f32⟩
  | .hbm, ⟨79, _⟩ => ⟨S2x8x512x4096, .f32⟩
  | .hbm, ⟨80, _⟩ => ⟨S2x8x512x4096, .f32⟩
  | .hbm, ⟨81, _⟩ => ⟨S2x8x512x4096, .f32⟩
  | .hbm, ⟨82, _⟩ => ⟨S8x1024x2x512, .f32⟩
  | .hbm, ⟨83, _⟩ => ⟨S2x8x512x1024, .f32⟩
  | .hbm, ⟨84, _⟩ => ⟨S1x8x1x1024, .f32⟩
  | .hbm, ⟨85, _⟩ => ⟨S2x8x512x1024, .f32⟩
  | .hbm, ⟨86, _⟩ => ⟨S2x8x512x1024, .f32⟩
  | .hbm, ⟨87, _⟩ => ⟨S8192x1024, .f32⟩
  | .hbm, ⟨88, _⟩ => ⟨S1024x1024, .f32⟩
  | .hbm, ⟨89, _⟩ => ⟨S8192x1024, .f32⟩
  | .hbm, ⟨90, _⟩ => ⟨S1x1024, .f32⟩
  | .hbm, ⟨91, _⟩ => ⟨S8192x1024, .f32⟩
  | .hbm, ⟨92, _⟩ => ⟨S8192x1024, .f32⟩
  | .hbm, ⟨93, _⟩ => ⟨S_, .f32⟩
  | .hbm, ⟨94, _⟩ => ⟨S8192x1024, .f32⟩
  | .hbm, ⟨95, _⟩ => ⟨S8192x1024, .f32⟩
  | .hbm, ⟨96, _⟩ => ⟨S8192x1024, .f32⟩
  | .hbm, ⟨97, _⟩ => ⟨S_, .f32⟩
  | .hbm, ⟨98, _⟩ => ⟨S8192x1024, .f32⟩
  | .hbm, ⟨99, _⟩ => ⟨S8192x1024, .f32⟩
  | .hbm, ⟨100, _⟩ => ⟨S8192x1024, .f32⟩
  | .hbm, ⟨101, _⟩ => ⟨S8192x1024, .f32⟩
  | .hbm, ⟨102, _⟩ => ⟨S2x4096x1024, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_c : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_cst_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_cst_1 : Ref sig .tc := ⟨.hbm, 30, rfl⟩
abbrev main_call0_v8 : Ref sig .tc := ⟨.hbm, 31, rfl⟩
abbrev main_call0_cst_2 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_v12 : Ref sig .tc := ⟨.hbm, 36, rfl⟩
abbrev main_call0_cst_3 : Ref sig .tc := ⟨.hbm, 37, rfl⟩
abbrev main_call0_v13 : Ref sig .tc := ⟨.hbm, 38, rfl⟩
abbrev main_call0_cst_4 : Ref sig .tc := ⟨.hbm, 39, rfl⟩
abbrev main_call0_call0_v0 : Ref sig .tc := ⟨.hbm, 40, rfl⟩
abbrev main_call0_call0_v1 : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_cst_1 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_values : Ref sig .tc := ⟨.hbm, 65, rfl⟩
abbrev main_indices : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_cst_2 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_cst_3 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_cst_4 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_cst_5 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩

abbrev nD : Nat := 1
abbrev τ : Topo := Topo.v7x

variable {F : FTy → Type} [FloatOps F]
-- ==== Proof.KernelIdeal.Ring.lean ====
/-
  The names of the weight ring. The kernel streams the two weight arrays `W1` (8 experts, 1024 x 4096 each) and `W2`
  (8 experts, 4096 x 1024 each) in 32 square chunks of 1024 x 1024: chunk `b` belongs to expert `b / 4` and is its
  `b % 4`-th column block (`W1`) or row block (`W2`). Each array has a buffer of two slots and one semaphore per slot.
  This module gives each chunk, slot and semaphore one name, shows that every slice the body takes is one of these
  names, and states the resources (a chunk at home, a slot held, a slot being filled) the body proof moves around.
-/
module

public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## Chunks, slots, semaphores -/

/-- The two weight arrays, left in HBM. -/
abbrev upArr : Memref sig .tc .hbm S8x1024x4096 .f32 := Memref.whole main_arg6
abbrev dnArr : Memref sig .tc .hbm S8x4096x1024 .f32 := Memref.whole main_arg8
/-- Their two-slot buffers. -/
abbrev upBuf : Memref sig .tc .vmem S2x1024x1024 .f32 := Memref.whole cc0_scratch0
abbrev dnBuf : Memref sig .tc .vmem S2x1024x1024 .f32 := Memref.whole cc0_scratch1

/-- Where chunk `b` starts in `W1`. -/
abbrev upOff (b : Fin 32) : Fin 3 → Nat := ![b.val / 4, 0, b.val % 4 * 1024]
/-- Where chunk `b` starts in `W2`. -/
abbrev dnOff (b : Fin 32) : Fin 3 → Nat := ![b.val / 4, b.val % 4 * 1024, 0]
abbrev slotOff (s : Fin 2) : Fin 3 → Nat := ![s.val, 0, 0]
abbrev semOff (s : Fin 2) : Fin 1 → Nat := ![s.val]

theorem upOff_inb (b : Fin 32) : ∀ a, upOff b a + S1x1024x1024.size a ≤ S8x1024x4096.size a := by
  have := b.isLt; intro a; fin_cases a
  · show b.val / 4 + 1 ≤ 8; omega
  · show 0 + 1024 ≤ 1024; omega
  · show b.val % 4 * 1024 + 1024 ≤ 4096; omega
theorem dnOff_inb (b : Fin 32) : ∀ a, dnOff b a + S1x1024x1024.size a ≤ S8x4096x1024.size a := by
  have := b.isLt; intro a; fin_cases a
  · show b.val / 4 + 1 ≤ 8; omega
  · show b.val % 4 * 1024 + 1024 ≤ 4096; omega
  · show 0 + 1024 ≤ 1024; omega
theorem slotOff_inb (s : Fin 2) : ∀ a, slotOff s a + S1x1024x1024.size a ≤ S2x1024x1024.size a := by
  have := s.isLt; intro a; fin_cases a
  · show s.val + 1 ≤ 2; omega
  · show 0 + 1024 ≤ 1024; omega
  · show 0 + 1024 ≤ 1024; omega
theorem semOff_inb (s : Fin 2) : ∀ a, semOff s a + S1.size a ≤ S2.size a := by
  have := s.isLt; intro a; fin_cases a; show s.val + 1 ≤ 2; omega

/-- Chunk `b` of `W1`. -/
def upChunk (b : Fin 32) : Memref sig .tc .hbm S1024x1024 .f32 :=
  (upArr.slice (Rect.unit (s := S8x1024x4096) (upOff b) S1x1024x1024.size (upOff_inb b)) (fun _ => rfl)).squeeze S1024x1024 squeezes_S1x1024x1024_S1024x1024
/-- Chunk `b` of `W2`. -/
def dnChunk (b : Fin 32) : Memref sig .tc .hbm S1024x1024 .f32 :=
  (dnArr.slice (Rect.unit (s := S8x4096x1024) (dnOff b) S1x1024x1024.size (dnOff_inb b)) (fun _ => rfl)).squeeze S1024x1024 squeezes_S1x1024x1024_S1024x1024
/-- Slot `s` of `W1`'s buffer. -/
def upSlot (s : Fin 2) : Memref sig .tc .vmem S1024x1024 .f32 :=
  (upBuf.slice (Rect.unit (s := S2x1024x1024) (slotOff s) S1x1024x1024.size (slotOff_inb s)) (fun _ => rfl)).squeeze S1024x1024 squeezes_S1x1024x1024_S1024x1024
/-- Slot `s` of `W2`'s buffer. -/
def dnSlot (s : Fin 2) : Memref sig .tc .vmem S1024x1024 .f32 :=
  (dnBuf.slice (Rect.unit (s := S2x1024x1024) (slotOff s) S1x1024x1024.size (slotOff_inb s)) (fun _ => rfl)).squeeze S1024x1024 squeezes_S1x1024x1024_S1024x1024
/-- The semaphore of slot `s` of `W1`'s buffer. -/
def upSem (s : Fin 2) : DmaSems sig S_ := (cc0_scratch2.slice (Rect.unit (s := S2) (semOff s) S1.size (semOff_inb s))).squeeze S_ squeezes_S1_S_
/-- The semaphore of slot `s` of `W2`'s buffer. -/
def dnSem (s : Fin 2) : DmaSems sig S_ := (cc0_scratch3.slice (Rect.unit (s := S2) (semOff s) S1.size (semOff_inb s))).squeeze S_ squeezes_S1_S_

instance (s : Fin 2) : ClosedOff (slotOff s) := ⟨slotOff s, rfl⟩

/-! ## The offsets the body computes, in closed form

Point `i` works on expert `i 0`; its four chunks are `4 * i 0 .. 4 * i 0 + 3`. -/

/-- The grid point of expert `e`. -/
abbrev pt (e : Fin 8) : grid0.Coords := fun a => match a with
  | ⟨0, _⟩ => e
  | ⟨n + 1, h⟩ => absurd h (Nat.not_lt.2 (Nat.le_add_left 1 n))

/-- A grid point is its one coordinate. -/
theorem coords_eta (i : grid0.Coords) : i = pt (i 0) := funext fun a => by
  match a with
  | ⟨0, _⟩ => rfl

/-- Chunk number `4 e + r`. -/
abbrev nth (i : grid0.Coords) (r : ℕ) : Fin 32 := Ring.bk 32 (4 * (i 0).val + r)

set_option maxRecDepth 65536 in
theorem off1_tab : ∀ e : Fin 8, ∀ r : Fin 4, k0_off1 (pt e) (BitVec.ofNat 32 r.val) = upOff (Ring.bk 32 (4 * e.val + r.val)) := by decide +kernel
set_option maxRecDepth 65536 in
theorem off2_tab : ∀ e : Fin 8, ∀ r : Fin 4, k0_off2 (pt e) (BitVec.ofNat 32 r.val) = dnOff (Ring.bk 32 (4 * e.val + r.val)) := by decide +kernel
set_option maxRecDepth 65536 in
theorem off3_tab : ∀ e : Fin 8, ∀ r : Fin 2, k0_off3 (pt e) (BitVec.ofNat 32 r.val) = upOff (Ring.bk 32 (4 * e.val + (r.val + 2))) := by decide +kernel
set_option maxRecDepth 65536 in
theorem off4_tab : ∀ e : Fin 8, ∀ r : Fin 2, k0_off4 (pt e) (BitVec.ofNat 32 r.val) = dnOff (Ring.bk 32 (4 * e.val + (r.val + 2))) := by decide +kernel
set_option maxRecDepth 65536 in
theorem off5_tab : ∀ e : Fin 8, e.val < 7 → k0_off5 (pt e) = upOff (Ring.bk 32 (4 * e.val + 4)) := by decide +kernel
set_option maxRecDepth 65536 in
theorem off6_tab : ∀ e : Fin 8, e.val < 7 → k0_off6 (pt e) = dnOff (Ring.bk 32 (4 * e.val + 4)) := by decide +kernel
set_option maxRecDepth 65536 in
theorem off7_tab : ∀ e : Fin 8, e.val < 7 → k0_off7 (pt e) = upOff (Ring.bk 32 (4 * e.val + 5)) := by decide +kernel
set_option maxRecDepth 65536 in
theorem off8_tab : ∀ e : Fin 8, e.val < 7 → k0_off8 (pt e) = dnOff (Ring.bk 32 (4 * e.val + 5)) := by decide +kernel

/-- The two prefetch conditions hold exactly before the last expert, -/
theorem cond2_tab : ∀ e : Fin 8, (k0_cond2 (pt e) = 1#1 ↔ e.val < 7) := by decide +kernel
theorem cond3_tab : ∀ e : Fin 8, (k0_cond3 (pt e) = 1#1 ↔ e.val < 7) := by decide +kernel
theorem cond2_iff (i : grid0.Coords) : k0_cond2 i = 1#1 ↔ (i 0).val < 7 := by rw [coords_eta i]; exact cond2_tab (i 0)
theorem cond3_iff (i : grid0.Coords) : k0_cond3 i = 1#1 ↔ (i 0).val < 7 := by rw [coords_eta i]; exact cond3_tab (i 0)
/-- the opening fetches happen at expert 0 only. -/
theorem cond1_tab : ∀ e : Fin 8, (Scalar.cmpi .ne (Scalar.extui (Scalar.cmpi .eq (BitVec.ofNat 32 e.val) 0#32) : BitVec 32) 0#32 = 1#1 ↔ e.val = 0) := by decide +kernel

/-! ## The body's slices are these names -/

theorem upChunk_congr {off : Fin 3 → Nat} {b : Fin 32} (e : off = upOff b) (hh hs) :
    (upArr.slice (Rect.unit (s := S8x1024x4096) off S1x1024x1024.size hh) hs).squeeze S1024x1024 squeezes_S1x1024x1024_S1024x1024 = upChunk b :=
  congrArg (fun M : Memref sig .tc .hbm S1x1024x1024 .f32 => M.squeeze S1024x1024 squeezes_S1x1024x1024_S1024x1024) (Memref.slice_unit_congr _ e _ _ _ _)
theorem dnChunk_congr {off : Fin 3 → Nat} {b : Fin 32} (e : off = dnOff b) (hh hs) :
    (dnArr.slice (Rect.unit (s := S8x4096x1024) off S1x1024x1024.size hh) hs).squeeze S1024x1024 squeezes_S1x1024x1024_S1024x1024 = dnChunk b :=
  congrArg (fun M : Memref sig .tc .hbm S1x1024x1024 .f32 => M.squeeze S1024x1024 squeezes_S1x1024x1024_S1024x1024) (Memref.slice_unit_congr _ e _ _ _ _)
theorem upSlot_congr {off : Fin 3 → Nat} {s : Fin 2} (e : off = slotOff s) (hh hs) :
    (upBuf.slice (Rect.unit (s := S2x1024x1024) off S1x1024x1024.size hh) hs).squeeze S1024x1024 squeezes_S1x1024x1024_S1024x1024 = upSlot s :=
  congrArg (fun M : Memref sig .tc .vmem S1x1024x1024 .f32 => M.squeeze S1024x1024 squeezes_S1x1024x1024_S1024x1024) (Memref.slice_unit_congr _ e _ _ _ _)
theorem dnSlot_congr {off : Fin 3 → Nat} {s : Fin 2} (e : off = slotOff s) (hh hs) :
    (dnBuf.slice (Rect.unit (s := S2x1024x1024) off S1x1024x1024.size hh) hs).squeeze S1024x1024 squeezes_S1x1024x1024_S1024x1024 = dnSlot s :=
  congrArg (fun M : Memref sig .tc .vmem S1x1024x1024 .f32 => M.squeeze S1024x1024 squeezes_S1x1024x1024_S1024x1024) (Memref.slice_unit_congr _ e _ _ _ _)
theorem upSem_congr {off : Fin 1 → Nat} {s : Fin 2} (e : off = semOff s) (hh) :
    (cc0_scratch2.slice (Rect.unit (s := S2) off S1.size hh)).squeeze S_ squeezes_S1_S_ = upSem s :=
  congrArg (fun A : DmaSems sig S1 => A.squeeze S_ squeezes_S1_S_) (SemArray.slice_unit_congr _ e _ _)
theorem dnSem_congr {off : Fin 1 → Nat} {s : Fin 2} (e : off = semOff s) (hh) :
    (cc0_scratch3.slice (Rect.unit (s := S2) off S1.size hh)).squeeze S_ squeezes_S1_S_ = dnSem s :=
  congrArg (fun A : DmaSems sig S1 => A.squeeze S_ squeezes_S1_S_) (SemArray.slice_unit_congr _ e _ _)

/-- Slots and semaphores are sliced at literals. -/
@[sl_canon] theorem upSem0 (hh) : (cc0_scratch2.slice (Rect.unit (s := S2) ![0] S1.size hh)).squeeze S_ squeezes_S1_S_ = upSem 0 := upSem_congr (by decide) _
@[sl_canon] theorem upSem1 (hh) : (cc0_scratch2.slice (Rect.unit (s := S2) ![1] S1.size hh)).squeeze S_ squeezes_S1_S_ = upSem 1 := upSem_congr (by decide) _
@[sl_canon] theorem dnSem0 (hh) : (cc0_scratch3.slice (Rect.unit (s := S2) ![0] S1.size hh)).squeeze S_ squeezes_S1_S_ = dnSem 0 := dnSem_congr (by decide) _
@[sl_canon] theorem dnSem1 (hh) : (cc0_scratch3.slice (Rect.unit (s := S2) ![1] S1.size hh)).squeeze S_ squeezes_S1_S_ = dnSem 1 := dnSem_congr (by decide) _
@[sl_canon] theorem upSlot0 (hh hs) : (upBuf.slice (Rect.unit (s := S2x1024x1024) ![0, 0, 0] S1x1024x1024.size hh) hs).squeeze S1024x1024 squeezes_S1x1024x1024_S1024x1024 = upSlot 0 := upSlot_congr (by decide) _ _
@[sl_canon] theorem upSlot1 (hh hs) : (upBuf.slice (Rect.unit (s := S2x1024x1024) ![1, 0, 0] S1x1024x1024.size hh) hs).squeeze S1024x1024 squeezes_S1x1024x1024_S1024x1024 = upSlot 1 := upSlot_congr (by decide) _ _
@[sl_canon] theorem dnSlot0 (hh hs) : (dnBuf.slice (Rect.unit (s := S2x1024x1024) ![0, 0, 0] S1x1024x1024.size hh) hs).squeeze S1024x1024 squeezes_S1x1024x1024_S1024x1024 = dnSlot 0 := dnSlot_congr (by decide) _ _
@[sl_canon] theorem dnSlot1 (hh hs) : (dnBuf.slice (Rect.unit (s := S2x1024x1024) ![1, 0, 0] S1x1024x1024.size hh) hs).squeeze S1024x1024 squeezes_S1x1024x1024_S1024x1024 = dnSlot 1 := dnSlot_congr (by decide) _ _

/-- The opening fetches take chunks 0 and 1 at literals. -/
@[sl_canon] theorem upLit0 (hh hs) : (upArr.slice (Rect.unit (s := S8x1024x4096) ![0, 0, 0] S1x1024x1024.size hh) hs).squeeze S1024x1024 squeezes_S1x1024x1024_S1024x1024 = upChunk 0 := upChunk_congr (by decide) _ _
@[sl_canon] theorem upLit1 (hh hs) : (upArr.slice (Rect.unit (s := S8x1024x4096) ![0, 0, 1024] S1x1024x1024.size hh) hs).squeeze S1024x1024 squeezes_S1x1024x1024_S1024x1024 = upChunk 1 := upChunk_congr (by decide) _ _
@[sl_canon] theorem dnLit0 (hh hs) : (dnArr.slice (Rect.unit (s := S8x4096x1024) ![0, 0, 0] S1x1024x1024.size hh) hs).squeeze S1024x1024 squeezes_S1x1024x1024_S1024x1024 = dnChunk 0 := dnChunk_congr (by decide) _ _
@[sl_canon] theorem dnLit1 (hh hs) : (dnArr.slice (Rect.unit (s := S8x4096x1024) ![0, 1024, 0] S1x1024x1024.size hh) hs).squeeze S1024x1024 squeezes_S1x1024x1024_S1024x1024 = dnChunk 1 := dnChunk_congr (by decide) _ _

section Canon
variable (i : grid0.Coords)

theorem off1_eq (r : Fin 4) : k0_off1 i (BitVec.ofNat 32 r.val) = upOff (nth i r.val) := by rw [coords_eta i]; exact off1_tab (i 0) r
theorem off2_eq (r : Fin 4) : k0_off2 i (BitVec.ofNat 32 r.val) = dnOff (nth i r.val) := by rw [coords_eta i]; exact off2_tab (i 0) r
theorem off3_eq (r : Fin 2) : k0_off3 i (BitVec.ofNat 32 r.val) = upOff (nth i (r.val + 2)) := by rw [coords_eta i]; exact off3_tab (i 0) r
theorem off4_eq (r : Fin 2) : k0_off4 i (BitVec.ofNat 32 r.val) = dnOff (nth i (r.val + 2)) := by rw [coords_eta i]; exact off4_tab (i 0) r
theorem off5_eq (h : (i 0).val < 7) : k0_off5 i = upOff (nth i 4) := by rw [coords_eta i]; exact off5_tab (i 0) h
theorem off6_eq (h : (i 0).val < 7) : k0_off6 i = dnOff (nth i 4) := by rw [coords_eta i]; exact off6_tab (i 0) h
theorem off7_eq (h : (i 0).val < 7) : k0_off7 i = upOff (nth i 5) := by rw [coords_eta i]; exact off7_tab (i 0) h
theorem off8_eq (h : (i 0).val < 7) : k0_off8 i = dnOff (nth i 5) := by rw [coords_eta i]; exact off8_tab (i 0) h

/-- The chunks the point waits for. -/
@[sl_canon] theorem upWait0 (hh hs) : (upArr.slice (Rect.unit (s := S8x1024x4096) (k0_off1 i 0#32) S1x1024x1024.size hh) hs).squeeze S1024x1024 squeezes_S1x1024x1024_S1024x1024 = upChunk (nth i 0) := upChunk_congr (off1_eq i 0) _ _
@[sl_canon] theorem upWait1 (hh hs) : (upArr.slice (Rect.unit (s := S8x1024x4096) (k0_off1 i 1#32) S1x1024x1024.size hh) hs).squeeze S1024x1024 squeezes_S1x1024x1024_S1024x1024 = upChunk (nth i 1) := upChunk_congr (off1_eq i 1) _ _
@[sl_canon] theorem upWait2 (hh hs) : (upArr.slice (Rect.unit (s := S8x1024x4096) (k0_off1 i 2#32) S1x1024x1024.size hh) hs).squeeze S1024x1024 squeezes_S1x1024x1024_S1024x1024 = upChunk (nth i 2) := upChunk_congr (off1_eq i 2) _ _
@[sl_canon] theorem upWait3 (hh hs) : (upArr.slice (Rect.unit (s := S8x1024x4096) (k0_off1 i 3#32) S1x1024x1024.size hh) hs).squeeze S1024x1024 squeezes_S1x1024x1024_S1024x1024 = upChunk (nth i 3) := upChunk_congr (off1_eq i 3) _ _
@[sl_canon] theorem dnWait0 (hh hs) : (dnArr.slice (Rect.unit (s := S8x4096x1024) (k0_off2 i 0#32) S1x1024x1024.size hh) hs).squeeze S1024x1024 squeezes_S1x1024x1024_S1024x1024 = dnChunk (nth i 0) := dnChunk_congr (off2_eq i 0) _ _
@[sl_canon] theorem dnWait1 (hh hs) : (dnArr.slice (Rect.unit (s := S8x4096x1024) (k0_off2 i 1#32) S1x1024x1024.size hh) hs).squeeze S1024x1024 squeezes_S1x1024x1024_S1024x1024 = dnChunk (nth i 1) := dnChunk_congr (off2_eq i 1) _ _
@[sl_canon] theorem dnWait2 (hh hs) : (dnArr.slice (Rect.unit (s := S8x4096x1024) (k0_off2 i 2#32) S1x1024x1024.size hh) hs).squeeze S1024x1024 squeezes_S1x1024x1024_S1024x1024 = dnChunk (nth i 2) := dnChunk_congr (off2_eq i 2) _ _
@[sl_canon] theorem dnWait3 (hh hs) : (dnArr.slice (Rect.unit (s := S8x4096x1024) (k0_off2 i 3#32) S1x1024x1024.size hh) hs).squeeze S1024x1024 squeezes_S1x1024x1024_S1024x1024 = dnChunk (nth i 3) := dnChunk_congr (off2_eq i 3) _ _
/-- The chunks it fetches for itself. -/
@[sl_canon] theorem upNext2 (hh hs) : (upArr.slice (Rect.unit (s := S8x1024x4096) (k0_off3 i 0#32) S1x1024x1024.size hh) hs).squeeze S1024x1024 squeezes_S1x1024x1024_S1024x1024 = upChunk (nth i 2) := upChunk_congr (off3_eq i 0) _ _
@[sl_canon] theorem upNext3 (hh hs) : (upArr.slice (Rect.unit (s := S8x1024x4096) (k0_off3 i 1#32) S1x1024x1024.size hh) hs).squeeze S1024x1024 squeezes_S1x1024x1024_S1024x1024 = upChunk (nth i 3) := upChunk_congr (off3_eq i 1) _ _
@[sl_canon] theorem dnNext2 (hh hs) : (dnArr.slice (Rect.unit (s := S8x4096x1024) (k0_off4 i 0#32) S1x1024x1024.size hh) hs).squeeze S1024x1024 squeezes_S1x1024x1024_S1024x1024 = dnChunk (nth i 2) := dnChunk_congr (off4_eq i 0) _ _
@[sl_canon] theorem dnNext3 (hh hs) : (dnArr.slice (Rect.unit (s := S8x4096x1024) (k0_off4 i 1#32) S1x1024x1024.size hh) hs).squeeze S1024x1024 squeezes_S1x1024x1024_S1024x1024 = dnChunk (nth i 3) := dnChunk_congr (off4_eq i 1) _ _
/-- The chunks it fetches for the next expert. -/
@[sl_canon] theorem upNext4 (h : (i 0).val < 7) (hh hs) : (upArr.slice (Rect.unit (s := S8x1024x4096) (k0_off5 i) S1x1024x1024.size hh) hs).squeeze S1024x1024 squeezes_S1x1024x1024_S1024x1024 = upChunk (nth i 4) := upChunk_congr (off5_eq i h) _ _
@[sl_canon] theorem dnNext4 (h : (i 0).val < 7) (hh hs) : (dnArr.slice (Rect.unit (s := S8x4096x1024) (k0_off6 i) S1x1024x1024.size hh) hs).squeeze S1024x1024 squeezes_S1x1024x1024_S1024x1024 = dnChunk (nth i 4) := dnChunk_congr (off6_eq i h) _ _
@[sl_canon] theorem upNext5 (h : (i 0).val < 7) (hh hs) : (upArr.slice (Rect.unit (s := S8x1024x4096) (k0_off7 i) S1x1024x1024.size hh) hs).squeeze S1024x1024 squeezes_S1x1024x1024_S1024x1024 = upChunk (nth i 5) := upChunk_congr (off7_eq i h) _ _
@[sl_canon] theorem dnNext5 (h : (i 0).val < 7) (hh hs) : (dnArr.slice (Rect.unit (s := S8x4096x1024) (k0_off8 i) S1x1024x1024.size hh) hs).squeeze S1024x1024 squeezes_S1x1024x1024_S1024x1024 = dnChunk (nth i 5) := dnChunk_congr (off8_eq i h) _ _

end Canon

/-! ## The resources -/

section Pieces
variable (c : Dev nD) (XU : Buf (Elt F) (upArr.view.loc (c : Thread nD τ))) (XD : Buf (Elt F) (dnArr.view.loc (c : Thread nD τ)))

/-- A slot's semaphore, at zero. -/
abbrev upCell (s : Fin 2) : sProp 𝕄 := semVal ((c : Thread nD τ), SemLoc.dma (upSem s).sem) 0
abbrev dnCell (s : Fin 2) : sProp 𝕄 := semVal ((c : Thread nD τ), SemLoc.dma (dnSem s).sem) 0
/-- A slot held, with contents `f`. -/
abbrev upHeld (s : Fin 2) (f : Buf (Elt F) ((upSlot s).view.loc (c : Thread nD τ))) : sProp 𝕄 :=
  (upSlot s).view.loc (c : Thread nD τ) ↦[(upSlot s).view.set]{fullShare} f
abbrev dnHeld (s : Fin 2) (f : Buf (Elt F) ((dnSlot s).view.loc (c : Thread nD τ))) : sProp 𝕄 :=
  (dnSlot s).view.loc (c : Thread nD τ) ↦[(dnSlot s).view.set]{fullShare} f
/-- A chunk at home: its part of the array, held. -/
abbrev upHome (b : Fin 32) : sProp 𝕄 := (upChunk b).view.loc (c : Thread nD τ) ↦[(upChunk b).view.set]{fullShare} XU
abbrev dnHome (b : Fin 32) : sProp 𝕄 := (dnChunk b).view.loc (c : Thread nD τ) ↦[(dnChunk b).view.set]{fullShare} XD
/-- The words of a chunk. -/
abbrev upWords (b : Fin 32) : S1024x1024.Idx → Elt F .f32 := ReadAs.same.apply ((upChunk b).view.read (Elt F) XU)
abbrev dnWords (b : Fin 32) : S1024x1024.Idx → Elt F .f32 := ReadAs.same.apply ((dnChunk b).view.read (Elt F) XD)
/-- A slot after chunk `b` arrived over contents `f`. -/
abbrev upLanded (s : Fin 2) (b : Fin 32) (f : Buf (Elt F) ((upSlot s).view.loc (c : Thread nD τ))) : Buf (Elt F) ((upSlot s).view.loc (c : Thread nD τ)) :=
  (upSlot s).view.writes (Elt F) f [⟨Rect.whole S1024x1024, upWords c XU b⟩]
abbrev dnLanded (s : Fin 2) (b : Fin 32) (f : Buf (Elt F) ((dnSlot s).view.loc (c : Thread nD τ))) : Buf (Elt F) ((dnSlot s).view.loc (c : Thread nD τ)) :=
  (dnSlot s).view.writes (Elt F) f [⟨Rect.whole S1024x1024, dnWords c XD b⟩]
/-- Chunk `b` on its way into slot `s`, whose contents were `f`. -/
abbrev upFlight (s : Fin 2) (b : Fin 32) (f : Buf (Elt F) ((upSlot s).view.loc (c : Thread nD τ))) : sProp 𝕄 :=
  Transfers.Flight countersEmb (c : Thread nD τ) (SemLoc.dma (upSem s).sem) () 131072 iprop(upHeld c s (upLanded c XU s b f) ∗ upHome c XU b)
abbrev dnFlight (s : Fin 2) (b : Fin 32) (f : Buf (Elt F) ((dnSlot s).view.loc (c : Thread nD τ))) : sProp 𝕄 :=
  Transfers.Flight countersEmb (c : Thread nD τ) (SemLoc.dma (dnSem s).sem) () 131072 iprop(dnHeld c s (dnLanded c XD s b f) ∗ dnHome c XD b)

end Pieces

end Cert.KernelIdeal.Hand

end
-- ==== Proof.KernelIdeal.Body.lean ====
/-
  One grid point of the body. `outBlk` is the block the body stores, as a function of what it loads: the point's token
  block, the weights held whole, the point's bias rows and its four chunks of `W1` and of `W2`. Three runs say that the
  body stores exactly this block: at the first point, which opens the ring; at a middle point, which finds two chunks of
  each array on their way and leaves the next two on theirs; at the last point, which leaves none.
-/
module

public import proofs.«01_k».proof.Proof.KernelIdeal.Ring
public import Idealize.ShloMosaic.Lib.VecWindow

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The stored block -/

/-- The part of a bias row of width 4096 that chunk `r` takes. -/
abbrev b1Rect0 : Rect S1x1x4096 := Rect.unit (s := S1x1x4096) ![0, 0, 0] S1x1x1024.size inb_S1x1x4096_S1x1x1024_0_0_0
abbrev b1Rect1 : Rect S1x1x4096 := Rect.unit (s := S1x1x4096) ![0, 0, 1024] S1x1x1024.size inb_S1x1x4096_S1x1x1024_0_0_1024
abbrev b1Rect2 : Rect S1x1x4096 := Rect.unit (s := S1x1x4096) ![0, 0, 2048] S1x1x1024.size inb_S1x1x4096_S1x1x1024_0_0_2048
abbrev b1Rect3 : Rect S1x1x4096 := Rect.unit (s := S1x1x4096) ![0, 0, 3072] S1x1x1024.size inb_S1x1x4096_S1x1x1024_0_0_3072

/-- The block a point stores, from the tokens `x`, the normalisation's `ga` and `be`, the first dense layer `wa`, `ba`,
    the expert's biases `b1`, `b2`, the last dense layer `wn`, `bn`, and the four chunks `u` of `W1` and `d` of `W2`. -/
def outBlk (x : Vec F S2x1x512x1024 .f32) (ga be : Vec F S1x1024 .f32) (wa : Vec F S1024x1024 .f32) (ba : Vec F S1x1024 .f32)
    (b1 : Vec F S1x1x4096 .f32) (b2 : Vec F S1x1x1024 .f32) (wn : Vec F S1024x1024 .f32) (bn : Vec F S1x1024 .f32)
    (u0 u1 u2 u3 d0 d1 d2 d3 : Vec F S1x1024x1024 .f32) : FVec F S2x1x512x1024 .f32 :=
  k0_pay1
    (k0_pay15
      (k0_pay13
        (k0_pay8
          (k0_pay6 (k0_pay5 (k0_pay4 (k0_pay2 x) (k0_pay3 x ga be wa ba)) u0 (View.ld b1 b1Rect0)) d0)
          (k0_pay7 (k0_pay4 (k0_pay2 x) (k0_pay3 x ga be wa ba)) u1 (View.ld b1 b1Rect1)) d1)
        (k0_pay12
          (k0_pay10 (k0_pay4 (k0_pay2 x) (k0_pay3 x ga be wa ba)) u2 (View.ld b1 b1Rect2))
          (k0_pay11 (k0_pay4 (k0_pay2 x) (k0_pay3 x ga be wa ba)) u2 (View.ld b1 b1Rect2))) d2)
      (k0_pay14 (k0_pay4 (k0_pay2 x) (k0_pay3 x ga be wa ba)) u3 (View.ld b1 b1Rect3)) d3 b2)
    wn bn

/-! ## What a load of a slot reads -/

/-- A chunk's words as the body loads them, with a leading axis of one. -/
abbrev sheet (w : S1024x1024.Idx → Elt F .f32) : Vec F S1x1024x1024 .f32 := shapeCast S1x1024x1024 w (by decide)

/-- The load of slot `s` of `W1`'s buffer after the whole-slot writes `L`. -/
abbrev upRaw (c : Dev nD) (s : Fin 2) (h : ∀ a, slotOff s a + S1x1024x1024.size a ≤ S2x1024x1024.size a)
    (L : List (View.Piece (Elt F) S1024x1024 .f32)) : Vec F S1x1024x1024 .f32 :=
  upBuf.view.readAt (Elt F) (Rect.unit (s := S2x1024x1024) (slotOff s) S1x1024x1024.size h).toLoadRect
    ((upSlot s).view.writes (Elt F) (upSlot s).view.junk L)
abbrev dnRaw (c : Dev nD) (s : Fin 2) (h : ∀ a, slotOff s a + S1x1024x1024.size a ≤ S2x1024x1024.size a)
    (L : List (View.Piece (Elt F) S1024x1024 .f32)) : Vec F S1x1024x1024 .f32 :=
  dnBuf.view.readAt (Elt F) (Rect.unit (s := S2x1024x1024) (slotOff s) S1x1024x1024.size h).toLoadRect
    ((dnSlot s).view.writes (Elt F) (dnSlot s).view.junk L)

/-- A whole write read back is its words, whatever was written before. -/
theorem read_newest {sp : Space} (v : View sig .tc sp S1024x1024 .f32) (f : v.ty.Contents (Elt F)) (w : S1024x1024.Idx → Elt F .f32)
    (L : List (View.Piece (Elt F) S1024x1024 .f32)) : v.read (Elt F) (v.writes (Elt F) f (⟨Rect.whole S1024x1024, w⟩ :: L)) = w := by
  funext y
  have h := View.read_writes_cons_emb v f (Rect.whole S1024x1024) w L y
  rwa [Rect.emb_whole_apply] at h

/-- A view read through a reshape that drops its leading axis of one. -/
theorem read_sheet (v : View sig .tc .vmem S1x1024x1024 .f32) (h : S1024x1024.numel = S1x1024x1024.numel) (f : v.ty.Contents (Elt F)) :
    v.read (Elt F) f = sheet ((v.reshape S1024x1024 h).read (Elt F) f) := by
  funext j
  show View.read (Elt F) v f j = View.read (Elt F) v f (Shape.reshapeEquiv h (Shape.reshapeEquiv h.symm j))
  rw [Shape.reshapeEquiv_reshapeEquiv, Shape.reshapeEquiv_self]

/-- The load reads the newest chunk. -/
theorem upRaw_cons (c : Dev nD) (s : Fin 2) (h) (w : S1024x1024.Idx → Elt F .f32) (L : List (View.Piece (Elt F) S1024x1024 .f32)) :
    upRaw c s h (⟨Rect.whole S1024x1024, w⟩ :: L) = sheet w :=
  (read_sheet (upBuf.view.slice (Rect.unit (s := S2x1024x1024) (slotOff s) S1x1024x1024.size h)) (Shape.Squeezes.numel_eq squeezes_S1x1024x1024_S1024x1024) _).trans
    (congrArg (fun w' : S1024x1024.Idx → Elt F .f32 => sheet w') (read_newest (upSlot s).view (upSlot s).view.junk w L))
theorem dnRaw_cons (c : Dev nD) (s : Fin 2) (h) (w : S1024x1024.Idx → Elt F .f32) (L : List (View.Piece (Elt F) S1024x1024 .f32)) :
    dnRaw c s h (⟨Rect.whole S1024x1024, w⟩ :: L) = sheet w :=
  (read_sheet (dnBuf.view.slice (Rect.unit (s := S2x1024x1024) (slotOff s) S1x1024x1024.size h)) (Shape.Squeezes.numel_eq squeezes_S1x1024x1024_S1024x1024) _).trans
    (congrArg (fun w' : S1024x1024.Idx → Elt F .f32 => sheet w') (read_newest (dnSlot s).view (dnSlot s).view.junk w L))

/-! ## The runs -/

section Run
variable (c : Dev nD) (XU : Buf (Elt F) (upArr.view.loc (c : Thread nD τ))) (XD : Buf (Elt F) (dnArr.view.loc (c : Thread nD τ)))
  (i : grid0.Coords)
  (arg1 : Memref sig .tc .vmem S2x1x512x1024 .f32) (harg1 : arg1.IsWhole)
  (arg2 : Memref sig .tc .vmem S1x1024 .f32) (harg2 : arg2.IsWhole)
  (arg3 : Memref sig .tc .vmem S1x1024 .f32) (harg3 : arg3.IsWhole)
  (arg4 : Memref sig .tc .vmem S1024x1024 .f32) (harg4 : arg4.IsWhole)
  (arg5 : Memref sig .tc .vmem S1x1024 .f32) (harg5 : arg5.IsWhole)
  (arg7 : Memref sig .tc .vmem S1x1x4096 .f32) (harg7 : arg7.IsWhole)
  (arg9 : Memref sig .tc .vmem S1x1x1024 .f32) (harg9 : arg9.IsWhole)
  (arg10 : Memref sig .tc .vmem S1024x1024 .f32) (harg10 : arg10.IsWhole)
  (arg11 : Memref sig .tc .vmem S1x1024 .f32) (harg11 : arg11.IsWhole)
  (arg12 : Memref sig .tc .vmem S2x1x512x1024 .f32) (harg12 : arg12.IsWhole)

/-- The body on the given staging buffers, with the weight arrays, their buffers and their semaphores. -/
abbrev bodyG : Prog (TpuEff nD τ sig (Elt F) Λ₀ .tc) PUnit :=
  cc0__fused_body i arg1 harg1 arg2 harg2 arg3 harg3 arg4 harg4 arg5 harg5 upArr (Memref.isWhole_whole _) arg7 harg7 dnArr (Memref.isWhole_whole _)
    arg9 harg9 arg10 harg10 arg11 harg11 arg12 harg12 upBuf (Memref.isWhole_whole _) dnBuf (Memref.isWhole_whole _) cc0_scratch2 cc0_scratch3

/-- A staging buffer held, with contents `g`. -/
abbrev winP {S : Shape} (M : Memref sig .tc .vmem S .f32) (g : Buf (Elt F) (M.view.loc (c : Thread nD τ))) : sProp 𝕄 :=
  M.view.loc (c : Thread nD τ) ↦[M.view.set]{fullShare} g

variable
  (g1 : Buf (Elt F) (arg1.view.loc (c : Thread nD τ)))
  (g2 : Buf (Elt F) (arg2.view.loc (c : Thread nD τ)))
  (g3 : Buf (Elt F) (arg3.view.loc (c : Thread nD τ)))
  (g4 : Buf (Elt F) (arg4.view.loc (c : Thread nD τ)))
  (g5 : Buf (Elt F) (arg5.view.loc (c : Thread nD τ)))
  (g7 : Buf (Elt F) (arg7.view.loc (c : Thread nD τ)))
  (g9 : Buf (Elt F) (arg9.view.loc (c : Thread nD τ)))
  (g10 : Buf (Elt F) (arg10.view.loc (c : Thread nD τ)))
  (g11 : Buf (Elt F) (arg11.view.loc (c : Thread nD τ)))
  (g12 : Buf (Elt F) (arg12.view.loc (c : Thread nD τ)))

/-- The nine input blocks, held. -/
abbrev insP : sProp 𝕄 :=
  iprop(winP c arg1 g1 ∗ winP c arg2 g2 ∗ winP c arg3 g3 ∗ winP c arg4 g4 ∗ winP c arg5 g5 ∗ winP c arg7 g7 ∗ winP c arg9 g9 ∗ winP c arg10 g10 ∗ winP c arg11 g11)

/-- The stored block at the chunks `b0 .. b3`, the inputs as their buffers read. -/
abbrev outAt (b0 b1 b2 b3 : Fin 32) : FVec F S2x1x512x1024 .f32 :=
  outBlk (arg1.view.read (Elt F) g1) (arg2.view.read (Elt F) g2) (arg3.view.read (Elt F) g3) (arg4.view.read (Elt F) g4) (arg5.view.read (Elt F) g5)
    (arg7.view.read (Elt F) g7) (arg9.view.read (Elt F) g9) (arg10.view.read (Elt F) g10) (arg11.view.read (Elt F) g11)
    (sheet (upWords c XU b0)) (sheet (upWords c XU b1)) (sheet (upWords c XU b2)) (sheet (upWords c XU b3))
    (sheet (dnWords c XD b0)) (sheet (dnWords c XD b1)) (sheet (dnWords c XD b2)) (sheet (dnWords c XD b3))

/-- The output buffer after the body stored `w`. -/
abbrev outP (w : FVec F S2x1x512x1024 .f32) : sProp 𝕄 :=
  winP c arg12 (arg12.view.writes (Elt F) g12 [⟨Rect.unit ![0, 0, 0, 0] S2x1x512x1024.size inb_S2x1x512x1024_S2x1x512x1024_0_0_0_0, w⟩])

/-- A whole load reads the buffer. -/
theorem outAt_raw (b0 b1 b2 b3 : Fin 32) :
    outAt c XU XD arg1 arg2 arg3 arg4 arg5 arg7 arg9 arg10 arg11 g1 g2 g3 g4 g5 g7 g9 g10 g11 b0 b1 b2 b3
      = outBlk (arg1.view.readAt (Elt F) (Rect.unit ![0, 0, 0, 0] S2x1x512x1024.size inb_S2x1x512x1024_S2x1x512x1024_0_0_0_0).toLoadRect g1)
          (arg2.view.readAt (Elt F) (Rect.unit ![0, 0] S1x1024.size inb_S1x1024_S1x1024_0_0).toLoadRect g2)
          (arg3.view.readAt (Elt F) (Rect.unit ![0, 0] S1x1024.size inb_S1x1024_S1x1024_0_0).toLoadRect g3)
          (arg4.view.readAt (Elt F) (Rect.unit ![0, 0] S1024x1024.size inb_S1024x1024_S1024x1024_0_0).toLoadRect g4)
          (arg5.view.readAt (Elt F) (Rect.unit ![0, 0] S1x1024.size inb_S1x1024_S1x1024_0_0).toLoadRect g5)
          (arg7.view.read (Elt F) g7)
          (arg9.view.readAt (Elt F) (Rect.unit ![0, 0, 0] S1x1x1024.size inb_S1x1x1024_S1x1x1024_0_0_0).toLoadRect g9)
          (arg10.view.readAt (Elt F) (Rect.unit ![0, 0] S1024x1024.size inb_S1024x1024_S1024x1024_0_0).toLoadRect g10)
          (arg11.view.readAt (Elt F) (Rect.unit ![0, 0] S1x1024.size inb_S1x1024_S1x1024_0_0).toLoadRect g11)
          (upRaw c 0 inb_S2x1024x1024_S1x1024x1024_0_0_0 [⟨Rect.whole S1024x1024, upWords c XU b0⟩])
          (upRaw c 1 inb_S2x1024x1024_S1x1024x1024_1_0_0 [⟨Rect.whole S1024x1024, upWords c XU b1⟩])
          (upRaw c 0 inb_S2x1024x1024_S1x1024x1024_0_0_0 [⟨Rect.whole S1024x1024, upWords c XU b2⟩, ⟨Rect.whole S1024x1024, upWords c XU b0⟩])
          (upRaw c 1 inb_S2x1024x1024_S1x1024x1024_1_0_0 [⟨Rect.whole S1024x1024, upWords c XU b3⟩, ⟨Rect.whole S1024x1024, upWords c XU b1⟩])
          (dnRaw c 0 inb_S2x1024x1024_S1x1024x1024_0_0_0 [⟨Rect.whole S1024x1024, dnWords c XD b0⟩])
          (dnRaw c 1 inb_S2x1024x1024_S1x1024x1024_1_0_0 [⟨Rect.whole S1024x1024, dnWords c XD b1⟩])
          (dnRaw c 0 inb_S2x1024x1024_S1x1024x1024_0_0_0 [⟨Rect.whole S1024x1024, dnWords c XD b2⟩, ⟨Rect.whole S1024x1024, dnWords c XD b0⟩])
          (dnRaw c 1 inb_S2x1024x1024_S1x1024x1024_1_0_0 [⟨Rect.whole S1024x1024, dnWords c XD b3⟩, ⟨Rect.whole S1024x1024, dnWords c XD b1⟩]) := by
  rw [View.readAt_full arg1.view g1, View.readAt_full arg2.view g2, View.readAt_full arg3.view g3, View.readAt_full arg4.view g4,
    View.readAt_full arg5.view g5, View.readAt_full arg9.view g9, View.readAt_full arg10.view g10, View.readAt_full arg11.view g11]
  simp only [upRaw_cons, dnRaw_cons]

/-- A slot in flight again, over the chunks that were in it before. -/
theorem upFlight_over (s : Fin 2) (b : Fin 32) (L : List (View.Piece (Elt F) S1024x1024 .f32)) :
    upFlight c XU s b ((upSlot s).view.writes (Elt F) (upSlot s).view.junk L)
      = Transfers.Flight countersEmb (c : Thread nD τ) (SemLoc.dma (upSem s).sem) () 131072
          iprop(upHeld c s ((upSlot s).view.writes (Elt F) (upSlot s).view.junk (⟨Rect.whole S1024x1024, upWords c XU b⟩ :: L)) ∗ upHome c XU b) := by
  simp only [upFlight, upLanded, upHeld, View.writes]
theorem dnFlight_over (s : Fin 2) (b : Fin 32) (L : List (View.Piece (Elt F) S1024x1024 .f32)) :
    dnFlight c XD s b ((dnSlot s).view.writes (Elt F) (dnSlot s).view.junk L)
      = Transfers.Flight countersEmb (c : Thread nD τ) (SemLoc.dma (dnSem s).sem) () 131072
          iprop(dnHeld c s ((dnSlot s).view.writes (Elt F) (dnSlot s).view.junk (⟨Rect.whole S1024x1024, dnWords c XD b⟩ :: L)) ∗ dnHome c XD b) := by
  simp only [dnFlight, dnLanded, dnHeld, View.writes]

/-- Two chunks of each array on their way, into slots 0 and 1. -/
abbrev inFlight (b0 b1 : Fin 32) : sProp 𝕄 :=
  iprop((∃ f, upFlight c XU 0 b0 f) ∗ (∃ f, upFlight c XU 1 b1 f) ∗ (∃ f, dnFlight c XD 0 b0 f) ∗ (∃ f, dnFlight c XD 1 b1 f))
/-- Nothing on its way: the slots held at anything and the semaphores at zero. -/
abbrev atRest : sProp 𝕄 :=
  iprop((∃ f, upHeld c 0 f) ∗ (∃ f, upHeld c 1 f) ∗ (∃ f, dnHeld c 0 f) ∗ (∃ f, dnHeld c 1 f)
    ∗ upCell c 0 ∗ upCell c 1 ∗ dnCell c 0 ∗ dnCell c 1)
/-- Chunk `b` of both arrays at home. -/
abbrev homeP (b : Fin 32) : sProp 𝕄 := iprop(upHome c XU b ∗ dnHome c XD b)

set_option maxHeartbeats 1000000 in
/-- The first point: all four chunks are fetched and arrive, 4 and 5 are left on their way. -/
theorem firstRun (h0 : (i 0).val = 0) (W : Waits sig Unit) (K : PUnit → sProp 𝕄) :
    iprop(insP c arg1 arg2 arg3 arg4 arg5 arg7 arg9 arg10 arg11 g1 g2 g3 g4 g5 g7 g9 g10 g11 ∗ winP c arg12 g12
        ∗ atRest c
        ∗ homeP c XU XD (nth i 0) ∗ homeP c XU XD (nth i 1) ∗ homeP c XU XD (nth i 2) ∗ homeP c XU XD (nth i 3) ∗ homeP c XU XD (nth i 4) ∗ homeP c XU XD (nth i 5)
        ∗ owes (c : Thread nD τ) 0 W
        ∗ (iprop(insP c arg1 arg2 arg3 arg4 arg5 arg7 arg9 arg10 arg11 g1 g2 g3 g4 g5 g7 g9 g10 g11 ∗ outP c arg12 g12 (outAt c XU XD arg1 arg2 arg3 arg4 arg5 arg7 arg9 arg10 arg11 g1 g2 g3 g4 g5 g7 g9 g10 g11 (nth i 0) (nth i 1) (nth i 2) (nth i 3))
            ∗ inFlight c XU XD (nth i 4) (nth i 5)
            ∗ homeP c XU XD (nth i 0) ∗ homeP c XU XD (nth i 1) ∗ homeP c XU XD (nth i 2) ∗ homeP c XU XD (nth i 3)
            ∗ (∃ W', owes (c : Thread nD τ) 0 W')) -∗ K ⟨⟩))
      ⊢ wp frame (wpE (defs₀ (F := F)) Variants.none c none) Set.univ (bodyG i arg1 harg1 arg2 harg2 arg3 harg3 arg4 harg4 arg5 harg5 arg7 harg7 arg9 harg9 arg10 harg10 arg11 harg11 arg12 harg12) K := by
  have hc2 : k0_cond2 i = 1#1 := (cond2_iff i).2 (by omega)
  have hc3 : k0_cond3 i = 1#1 := (cond3_iff i).2 (by omega)
  have h7 : (i 0).val < 7 := by omega
  have e0 : nth i 0 = 0 := Fin.ext (by simp [nth, h0])
  have e1 : nth i 1 = 1 := Fin.ext (by simp [nth, h0])
  have hc1 : (Scalar.cmpi .ne (Scalar.extui (Scalar.cmpi .eq (BitVec.ofNat 32 (i 0).val) 0#32) : BitVec 32) 0#32 = 1#1) :=
    (cond1_tab (i 0)).2 h0
  rw [outAt_raw, e0, e1]
  simp only [bodyG, cc0__fused_body_eq_skeleton]; unfold cc0__fused_body_skel
  iintro ⟨⟨H1, H2, H3, H4, H5, H7, H9, H10, H11⟩, H12, ⟨⟨%u0, SU0⟩, ⟨%u1, SU1⟩, ⟨%d0, SD0⟩, ⟨%d1, SD1⟩, CU0, CU1, CD0, CD1⟩, ⟨U0, D0⟩, ⟨U1, D1⟩, ⟨U2, D2⟩, ⟨U3, D3⟩, ⟨U4, D4⟩, ⟨U5, D5⟩, HW, Hk⟩
  sl_exec
  sl_step
  iapply Hk
  isplitl [H1 H2 H3 H4 H5 H7 H9 H10 H11]
  · isplitl [H1]; · iexact H1
    isplitl [H2]; · iexact H2
    isplitl [H3]; · iexact H3
    isplitl [H4]; · iexact H4
    isplitl [H5]; · iexact H5
    isplitl [H7]; · iexact H7
    isplitl [H9]; · iexact H9
    isplitl [H10]; · iexact H10
    iexact H11
  isplitl [H12]; · iexact H12
  isplitl [CU0 CU1 CD0 CD1]
  · isplitl [CU0]
    · iexists (upSlot 0).view.writes (Elt F) (upSlot 0).view.junk [⟨Rect.whole S1024x1024, upWords c XU (nth i 2)⟩, ⟨Rect.whole S1024x1024, upWords c XU 0⟩]
      irw [upFlight_over]; iexact CU0
    isplitl [CU1]
    · iexists (upSlot 1).view.writes (Elt F) (upSlot 1).view.junk [⟨Rect.whole S1024x1024, upWords c XU (nth i 3)⟩, ⟨Rect.whole S1024x1024, upWords c XU 1⟩]
      irw [upFlight_over]; iexact CU1
    isplitl [CD0]
    · iexists (dnSlot 0).view.writes (Elt F) (dnSlot 0).view.junk [⟨Rect.whole S1024x1024, dnWords c XD (nth i 2)⟩, ⟨Rect.whole S1024x1024, dnWords c XD 0⟩]
      irw [dnFlight_over]; iexact CD0
    iexists (dnSlot 1).view.writes (Elt F) (dnSlot 1).view.junk [⟨Rect.whole S1024x1024, dnWords c XD (nth i 3)⟩, ⟨Rect.whole S1024x1024, dnWords c XD 1⟩]
    irw [dnFlight_over]; iexact CD1
  isplitl [U0 D0]
  · isplitl [U0]; · iexact U0
    iexact D0
  isplitl [U1 D1]
  · isplitl [U1]; · iexact U1
    iexact D1
  isplitl [U2 D2]
  · isplitl [U2]; · iexact U2
    iexact D2
  isplitl [U3 D3]
  · isplitl [U3]; · iexact U3
    iexact D3
  iexists _; iexact HW

set_option maxHeartbeats 1000000 in
/-- A middle point: chunks 0 and 1 arrive, 2 and 3 are fetched and arrive, 4 and 5 are left on their way. -/
theorem midRun (h0 : 0 < (i 0).val) (h7 : (i 0).val < 7) (W : Waits sig Unit) (K : PUnit → sProp 𝕄) :
    iprop(insP c arg1 arg2 arg3 arg4 arg5 arg7 arg9 arg10 arg11 g1 g2 g3 g4 g5 g7 g9 g10 g11 ∗ winP c arg12 g12
        ∗ inFlight c XU XD (nth i 0) (nth i 1)
        ∗ homeP c XU XD (nth i 2) ∗ homeP c XU XD (nth i 3) ∗ homeP c XU XD (nth i 4) ∗ homeP c XU XD (nth i 5)
        ∗ owes (c : Thread nD τ) 0 W
        ∗ (iprop(insP c arg1 arg2 arg3 arg4 arg5 arg7 arg9 arg10 arg11 g1 g2 g3 g4 g5 g7 g9 g10 g11 ∗ outP c arg12 g12 (outAt c XU XD arg1 arg2 arg3 arg4 arg5 arg7 arg9 arg10 arg11 g1 g2 g3 g4 g5 g7 g9 g10 g11 (nth i 0) (nth i 1) (nth i 2) (nth i 3))
            ∗ inFlight c XU XD (nth i 4) (nth i 5)
            ∗ homeP c XU XD (nth i 0) ∗ homeP c XU XD (nth i 1) ∗ homeP c XU XD (nth i 2) ∗ homeP c XU XD (nth i 3)
            ∗ (∃ W', owes (c : Thread nD τ) 0 W')) -∗ K ⟨⟩))
      ⊢ wp frame (wpE (defs₀ (F := F)) Variants.none c none) Set.univ (bodyG i arg1 harg1 arg2 harg2 arg3 harg3 arg4 harg4 arg5 harg5 arg7 harg7 arg9 harg9 arg10 harg10 arg11 harg11 arg12 harg12) K := by
  have hc2 : k0_cond2 i = 1#1 := (cond2_iff i).2 h7
  have hc3 : k0_cond3 i = 1#1 := (cond3_iff i).2 h7
  have hc1 : ¬ (Scalar.cmpi .ne (Scalar.extui (Scalar.cmpi .eq (BitVec.ofNat 32 (i 0).val) 0#32) : BitVec 32) 0#32 = 1#1) :=
    fun h => absurd ((cond1_tab (i 0)).1 h) (by omega)
  rw [outAt_raw]
  simp only [bodyG, cc0__fused_body_eq_skeleton]; unfold cc0__fused_body_skel
  iintro ⟨⟨H1, H2, H3, H4, H5, H7, H9, H10, H11⟩, H12, ⟨⟨%u0, FU0⟩, ⟨%u1, FU1⟩, ⟨%d0, FD0⟩, ⟨%d1, FD1⟩⟩, ⟨U2, D2⟩, ⟨U3, D3⟩, ⟨U4, D4⟩, ⟨U5, D5⟩, HW, Hk⟩
  sl_exec
  sl_step
  iapply Hk
  isplitl [H1 H2 H3 H4 H5 H7 H9 H10 H11]
  · isplitl [H1]; · iexact H1
    isplitl [H2]; · iexact H2
    isplitl [H3]; · iexact H3
    isplitl [H4]; · iexact H4
    isplitl [H5]; · iexact H5
    isplitl [H7]; · iexact H7
    isplitl [H9]; · iexact H9
    isplitl [H10]; · iexact H10
    iexact H11
  isplitl [H12]; · iexact H12
  isplitl [FU0 FU1 FD0 FD1]
  · isplitl [FU0]
    · iexists (upSlot 0).view.writes (Elt F) (upSlot 0).view.junk [⟨Rect.whole S1024x1024, upWords c XU (nth i 2)⟩, ⟨Rect.whole S1024x1024, upWords c XU (nth i 0)⟩]
      irw [upFlight_over]; iexact FU0
    isplitl [FU1]
    · iexists (upSlot 1).view.writes (Elt F) (upSlot 1).view.junk [⟨Rect.whole S1024x1024, upWords c XU (nth i 3)⟩, ⟨Rect.whole S1024x1024, upWords c XU (nth i 1)⟩]
      irw [upFlight_over]; iexact FU1
    isplitl [FD0]
    · iexists (dnSlot 0).view.writes (Elt F) (dnSlot 0).view.junk [⟨Rect.whole S1024x1024, dnWords c XD (nth i 2)⟩, ⟨Rect.whole S1024x1024, dnWords c XD (nth i 0)⟩]
      irw [dnFlight_over]; iexact FD0
    iexists (dnSlot 1).view.writes (Elt F) (dnSlot 1).view.junk [⟨Rect.whole S1024x1024, dnWords c XD (nth i 3)⟩, ⟨Rect.whole S1024x1024, dnWords c XD (nth i 1)⟩]
    irw [dnFlight_over]; iexact FD1
  isplitl [FU0_src FD0_src]
  · isplitl [FU0_src]; · iexact FU0_src
    iexact FD0_src
  isplitl [FU1_src FD1_src]
  · isplitl [FU1_src]; · iexact FU1_src
    iexact FD1_src
  isplitl [U2 D2]
  · isplitl [U2]; · iexact U2
    iexact D2
  isplitl [U3 D3]
  · isplitl [U3]; · iexact U3
    iexact D3
  iexists _; iexact HW

set_option maxHeartbeats 1000000 in
/-- The last point: chunks 0 and 1 arrive, 2 and 3 are fetched and arrive, nothing is left on its way. -/
theorem lastRun (h7 : (i 0).val = 7) (W : Waits sig Unit) (K : PUnit → sProp 𝕄) :
    iprop(insP c arg1 arg2 arg3 arg4 arg5 arg7 arg9 arg10 arg11 g1 g2 g3 g4 g5 g7 g9 g10 g11 ∗ winP c arg12 g12
        ∗ inFlight c XU XD (nth i 0) (nth i 1)
        ∗ homeP c XU XD (nth i 2) ∗ homeP c XU XD (nth i 3)
        ∗ owes (c : Thread nD τ) 0 W
        ∗ (iprop(insP c arg1 arg2 arg3 arg4 arg5 arg7 arg9 arg10 arg11 g1 g2 g3 g4 g5 g7 g9 g10 g11 ∗ outP c arg12 g12 (outAt c XU XD arg1 arg2 arg3 arg4 arg5 arg7 arg9 arg10 arg11 g1 g2 g3 g4 g5 g7 g9 g10 g11 (nth i 0) (nth i 1) (nth i 2) (nth i 3))
            ∗ atRest c
            ∗ homeP c XU XD (nth i 0) ∗ homeP c XU XD (nth i 1) ∗ homeP c XU XD (nth i 2) ∗ homeP c XU XD (nth i 3)
            ∗ (∃ W', owes (c : Thread nD τ) 0 W')) -∗ K ⟨⟩))
      ⊢ wp frame (wpE (defs₀ (F := F)) Variants.none c none) Set.univ (bodyG i arg1 harg1 arg2 harg2 arg3 harg3 arg4 harg4 arg5 harg5 arg7 harg7 arg9 harg9 arg10 harg10 arg11 harg11 arg12 harg12) K := by
  have hc2 : ¬ k0_cond2 i = 1#1 := fun h => absurd ((cond2_iff i).1 h) (by omega)
  have hc3 : ¬ k0_cond3 i = 1#1 := fun h => absurd ((cond3_iff i).1 h) (by omega)
  have hc1 : ¬ (Scalar.cmpi .ne (Scalar.extui (Scalar.cmpi .eq (BitVec.ofNat 32 (i 0).val) 0#32) : BitVec 32) 0#32 = 1#1) :=
    fun h => absurd ((cond1_tab (i 0)).1 h) (by omega)
  rw [outAt_raw]
  simp only [bodyG, cc0__fused_body_eq_skeleton]; unfold cc0__fused_body_skel
  iintro ⟨⟨H1, H2, H3, H4, H5, H7, H9, H10, H11⟩, H12, ⟨⟨%u0, FU0⟩, ⟨%u1, FU1⟩, ⟨%d0, FD0⟩, ⟨%d1, FD1⟩⟩, ⟨U2, D2⟩, ⟨U3, D3⟩, HW, Hk⟩
  sl_exec
  sl_step
  iapply Hk
  isplitl [H1 H2 H3 H4 H5 H7 H9 H10 H11]
  · isplitl [H1]; · iexact H1
    isplitl [H2]; · iexact H2
    isplitl [H3]; · iexact H3
    isplitl [H4]; · iexact H4
    isplitl [H5]; · iexact H5
    isplitl [H7]; · iexact H7
    isplitl [H9]; · iexact H9
    isplitl [H10]; · iexact H10
    iexact H11
  isplitl [H12]; · iexact H12
  isplitl [FU0_dst FU1_dst FD0_dst FD1_dst FU0 FU1 FD0 FD1]
  · isplitl [FU0_dst]; · iexists _; iexact FU0_dst
    isplitl [FU1_dst]; · iexists _; iexact FU1_dst
    isplitl [FD0_dst]; · iexists _; iexact FD0_dst
    isplitl [FD1_dst]; · iexists _; iexact FD1_dst
    isplitl [FU0]; · iexact FU0
    isplitl [FU1]; · iexact FU1
    isplitl [FD0]; · iexact FD0
    iexact FD1
  isplitl [FU0_src FD0_src]
  · isplitl [FU0_src]; · iexact FU0_src
    iexact FD0_src
  isplitl [FU1_src FD1_src]
  · isplitl [FU1_src]; · iexact FU1_src
    iexact FD1_src
  isplitl [U2 D2]
  · isplitl [U2]; · iexact U2
    iexact D2
  isplitl [U3 D3]
  · isplitl [U3]; · iexact U3
    iexact D3
  iexists _; iexact HW

end Run

end Cert.KernelIdeal.Hand

end
-- ==== Proof.KernelIdeal.Homes.lean ====
/-
  The ring across the grid. The weight arrays are held chunk by chunk: at the entry of point `n` the chunks before `4n`
  and from `4n + 2` on are at home and the two between are on their way; before the first point and after the last one
  every chunk is at home and nothing is on its way. `runAt` is one point's step from one such state to the next, and
  `ring_in`, `ring_out` trade the state at either end for the buffers held whole.
-/
module

public import proofs.«01_k».proof.Proof.KernelIdeal.Body

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## Element sets -/

abbrev upSet (b : Fin 32) : Finset S8x1024x4096.Idx := (Rect.unit (s := S8x1024x4096) (upOff b) S1x1024x1024.size (upOff_inb b)).set
abbrev dnSet (b : Fin 32) : Finset S8x4096x1024.Idx := (Rect.unit (s := S8x4096x1024) (dnOff b) S1x1024x1024.size (dnOff_inb b)).set
abbrev slotSet (s : Fin 2) : Finset S2x1024x1024.Idx := (Rect.unit (s := S2x1024x1024) (slotOff s) S1x1024x1024.size (slotOff_inb s)).set

theorem upChunk_set (b : Fin 32) : (upChunk b).view.set = upSet b := (View.set_reshape _ _).trans (View.set_slice_whole _ _)
theorem dnChunk_set (b : Fin 32) : (dnChunk b).view.set = dnSet b := (View.set_reshape _ _).trans (View.set_slice_whole _ _)
theorem upSlot_set (s : Fin 2) : (upSlot s).view.set = slotSet s := (View.set_reshape _ _).trans (View.set_slice_whole _ _)
theorem dnSlot_set (s : Fin 2) : (dnSlot s).view.set = slotSet s := (View.set_reshape _ _).trans (View.set_slice_whole _ _)

theorem mem_upSet (b : Fin 32) (y : S8x1024x4096.Idx) : y ∈ upSet b ↔ b.val = 4 * (y 0).val + (y 2).val / 1024 := by
  rw [Rect.mem_set_unit]
  have h0 : (y 0).val < 8 := (y 0).isLt
  have h1 : (y 1).val < 1024 := (y 1).isLt
  have h2 : (y 2).val < 4096 := (y 2).isLt
  constructor
  · intro H
    have a0 : b.val / 4 ≤ (y 0).val ∧ (y 0).val < b.val / 4 + 1 := H 0
    have a2 : b.val % 4 * 1024 ≤ (y 2).val ∧ (y 2).val < b.val % 4 * 1024 + 1024 := H 2
    omega
  · intro H i; fin_cases i
    · show b.val / 4 ≤ (y 0).val ∧ (y 0).val < b.val / 4 + 1; omega
    · show 0 ≤ (y 1).val ∧ (y 1).val < 0 + 1024; omega
    · show b.val % 4 * 1024 ≤ (y 2).val ∧ (y 2).val < b.val % 4 * 1024 + 1024; omega
theorem mem_dnSet (b : Fin 32) (y : S8x4096x1024.Idx) : y ∈ dnSet b ↔ b.val = 4 * (y 0).val + (y 1).val / 1024 := by
  rw [Rect.mem_set_unit]
  have h0 : (y 0).val < 8 := (y 0).isLt
  have h1 : (y 1).val < 4096 := (y 1).isLt
  have h2 : (y 2).val < 1024 := (y 2).isLt
  constructor
  · intro H
    have a0 : b.val / 4 ≤ (y 0).val ∧ (y 0).val < b.val / 4 + 1 := H 0
    have a1 : b.val % 4 * 1024 ≤ (y 1).val ∧ (y 1).val < b.val % 4 * 1024 + 1024 := H 1
    omega
  · intro H i; fin_cases i
    · show b.val / 4 ≤ (y 0).val ∧ (y 0).val < b.val / 4 + 1; omega
    · show b.val % 4 * 1024 ≤ (y 1).val ∧ (y 1).val < b.val % 4 * 1024 + 1024; omega
    · show 0 ≤ (y 2).val ∧ (y 2).val < 0 + 1024; omega
theorem mem_slotSet (s : Fin 2) (y : S2x1024x1024.Idx) : y ∈ slotSet s ↔ s.val = (y 0).val := by
  rw [Rect.mem_set_unit]
  have h1 : (y 1).val < 1024 := (y 1).isLt
  have h2 : (y 2).val < 1024 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1024; omega
    · show 0 ≤ (y 2).val ∧ (y 2).val < 0 + 1024; omega

theorem upSet_disjoint : ∀ b b' : Fin 32, b ≠ b' → Disjoint (upSet b) (upSet b') := by
  intro b b' hne; rw [Finset.disjoint_left]; intro y hy hy'; rw [mem_upSet] at hy hy'; exact hne (Fin.ext (hy.trans hy'.symm))
theorem dnSet_disjoint : ∀ b b' : Fin 32, b ≠ b' → Disjoint (dnSet b) (dnSet b') := by
  intro b b' hne; rw [Finset.disjoint_left]; intro y hy hy'; rw [mem_dnSet] at hy hy'; exact hne (Fin.ext (hy.trans hy'.symm))
theorem slotSet_disjoint : ∀ b b' : Fin 2, b ≠ b' → Disjoint (slotSet b) (slotSet b') := by
  intro b b' hne; rw [Finset.disjoint_left]; intro y hy hy'; rw [mem_slotSet] at hy hy'; exact hne (Fin.ext (hy.trans hy'.symm))
theorem upSet_cover : (Finset.univ : Finset (Fin 32)).biUnion upSet = Finset.univ := by
  ext y; simp only [Finset.mem_biUnion, Finset.mem_univ, true_and, iff_true]
  have h0 : (y 0).val < 8 := (y 0).isLt
  have h2 : (y 2).val < 4096 := (y 2).isLt
  exact ⟨⟨4 * (y 0).val + (y 2).val / 1024, by omega⟩, (mem_upSet _ _).2 rfl⟩
theorem dnSet_cover : (Finset.univ : Finset (Fin 32)).biUnion dnSet = Finset.univ := by
  ext y; simp only [Finset.mem_biUnion, Finset.mem_univ, true_and, iff_true]
  have h0 : (y 0).val < 8 := (y 0).isLt
  have h1 : (y 1).val < 4096 := (y 1).isLt
  exact ⟨⟨4 * (y 0).val + (y 1).val / 1024, by omega⟩, (mem_dnSet _ _).2 rfl⟩
theorem slotSet_cover : (Finset.univ : Finset (Fin 2)).biUnion slotSet = Finset.univ := by
  ext y; simp only [Finset.mem_biUnion, Finset.mem_univ, true_and, iff_true]
  exact ⟨⟨(y 0).val, (y 0).isLt⟩, (mem_slotSet _ _).2 rfl⟩

/-! ## Runs of chunks -/

/-- Two neighbouring chunks, one by one. -/
theorem run2 (Φ : Fin 32 → sProp 𝕄) (a : ℕ) (h : a + 2 ≤ 32) :
    bigSep (Ring.rangeSet 32 a (a + 2)) Φ = iprop(Φ (Ring.bk 32 a) ∗ Φ (Ring.bk 32 (a + 1))) := by
  have e : Ring.rangeSet 32 a (a + 2) = {Ring.bk 32 a, Ring.bk 32 (a + 1)} := by
    ext b; rw [Ring.mem_rangeSet, Finset.mem_insert, Finset.mem_singleton, Fin.ext_iff, Fin.ext_iff, Ring.bk_val (by omega), Ring.bk_val (by omega)]; omega
  have hd : [Ring.bk 32 a, Ring.bk 32 (a + 1)].Nodup := by
    simp only [List.nodup_cons, List.mem_singleton, List.not_mem_nil, not_false_iff, List.nodup_nil, and_true, Fin.ext_iff]
    rw [Ring.bk_val (by omega), Ring.bk_val (by omega)]; omega
  rw [BI.bigSep_eq_bigSepL_of_eq [Ring.bk 32 a, Ring.bk 32 (a + 1)] (by rw [e]; ext b; simp) hd]
  rfl
/-- Four neighbouring chunks, one by one. -/
theorem run4 (Φ : Fin 32 → sProp 𝕄) (a : ℕ) (h : a + 4 ≤ 32) :
    bigSep (Ring.rangeSet 32 a (a + 4)) Φ
      = iprop((Φ (Ring.bk 32 a) ∗ Φ (Ring.bk 32 (a + 1))) ∗ (Φ (Ring.bk 32 (a + 2)) ∗ Φ (Ring.bk 32 (a + 3)))) := by
  rw [Ring.bigSep_rangeSet_split (show a ≤ a + 2 by omega) (show a + 2 ≤ a + 4 by omega), run2 Φ a (by omega), run2 Φ (a + 2) (by omega)]

/-! ## The state before a point -/

section State
variable (c : Dev nD) (XU : Buf (Elt F) (upArr.view.loc (c : Thread nD τ))) (XD : Buf (Elt F) (dnArr.view.loc (c : Thread nD τ)))

/-- The chunks `lo .. hi - 1` of both arrays, at home. -/
abbrev homes (lo hi : ℕ) : sProp 𝕄 :=
  iprop(bigSep (Ring.rangeSet 32 lo hi) (upHome c XU) ∗ bigSep (Ring.rangeSet 32 lo hi) (dnHome c XD))

/-- Every chunk at home, nothing on its way. -/
abbrev resting : sProp 𝕄 := iprop(homes c XU XD 0 32 ∗ atRest c)
/-- Chunks `4n` and `4n + 1` on their way, the others at home. -/
abbrev flying (n : ℕ) : sProp 𝕄 :=
  iprop(homes c XU XD 0 (4 * n) ∗ homes c XU XD (4 * n + 2) 32 ∗ inFlight c XU XD (Ring.bk 32 (4 * n)) (Ring.bk 32 (4 * n + 1)))
/-- The state before point `n`. -/
def ringAt (n : ℕ) : sProp 𝕄 := if 0 < n ∧ n < 8 then flying c XU XD n else resting c XU XD
theorem ringAt_flying {n : ℕ} (h : 0 < n) (h' : n < 8) : ringAt c XU XD n = flying c XU XD n := if_pos ⟨h, h'⟩
theorem ringAt_zero : ringAt c XU XD 0 = resting c XU XD := if_neg (by omega)
theorem ringAt_eight : ringAt c XU XD 8 = resting c XU XD := if_neg (by omega)

/-- Chunks `a .. b - 1` and `b .. d - 1` of both arrays are chunks `a .. d - 1`. -/
theorem homes_split {a b d : ℕ} (h : a ≤ b) (h' : b ≤ d) : homes c XU XD a d ⊢ iprop(homes c XU XD a b ∗ homes c XU XD b d) := by
  rw [homes, Ring.bigSep_rangeSet_split h h', Ring.bigSep_rangeSet_split h h']
  iintro ⟨⟨U, U'⟩, D, D'⟩
  isplitl [U D]
  · isplitl [U]; · iexact U
    iexact D
  isplitl [U']; · iexact U'
  iexact D'
theorem homes_join {a b d : ℕ} (h : a ≤ b) (h' : b ≤ d) : iprop(homes c XU XD a b ∗ homes c XU XD b d) ⊢ homes c XU XD a d := by
  rw [homes, homes, homes, Ring.bigSep_rangeSet_split h h', Ring.bigSep_rangeSet_split h h']
  iintro ⟨⟨U, D⟩, U', D'⟩
  isplitl [U U']
  · isplitl [U]; · iexact U
    iexact U'
  isplitl [D]; · iexact D
  iexact D'
/-- Two neighbouring chunks of both arrays, apart. -/
theorem homes2 (a : ℕ) (h : a + 2 ≤ 32) : homes c XU XD a (a + 2) ⊢ iprop(homeP c XU XD (Ring.bk 32 a) ∗ homeP c XU XD (Ring.bk 32 (a + 1))) := by
  rw [homes, run2 _ a h, run2 _ a h]
  iintro ⟨⟨U, U'⟩, D, D'⟩
  isplitl [U D]
  · isplitl [U]; · iexact U
    iexact D
  isplitl [U']; · iexact U'
  iexact D'
/-- Four neighbouring chunks of both arrays, together. -/
theorem homes4 (a : ℕ) (h : a + 4 ≤ 32) :
    iprop(homeP c XU XD (Ring.bk 32 a) ∗ homeP c XU XD (Ring.bk 32 (a + 1)) ∗ homeP c XU XD (Ring.bk 32 (a + 2)) ∗ homeP c XU XD (Ring.bk 32 (a + 3)))
      ⊢ homes c XU XD a (a + 4) := by
  rw [homes, run4 _ a h, run4 _ a h]
  iintro ⟨⟨U, D⟩, ⟨U', D'⟩, ⟨U2, D2⟩, U3, D3⟩
  isplitl [U U' U2 U3]
  · isplitl [U U']
    · isplitl [U]; · iexact U
      iexact U'
    isplitl [U2]; · iexact U2
    iexact U3
  isplitl [D D']
  · isplitl [D]; · iexact D
    iexact D'
  isplitl [D2]; · iexact D2
  iexact D3

/-! ## The buffers whole -/

/-- `W1` whole is its chunks at home. -/
theorem upArr_eq : ((((c : Thread nD τ).loc main_arg6) ↦{fullShare} XU) : sProp 𝕄) = bigSep (Ring.rangeSet 32 0 32) (upHome c XU) := by
  rw [Ring.rangeSet_univ, Ring.pointsTo_blocks (ℓ := (c : Thread nD τ).loc main_arg6) upSet upSet_disjoint upSet_cover]
  exact bigSep_congr fun b _ => by rw [← upChunk_set]; rfl
theorem dnArr_eq : ((((c : Thread nD τ).loc main_arg8) ↦{fullShare} XD) : sProp 𝕄) = bigSep (Ring.rangeSet 32 0 32) (dnHome c XD) := by
  rw [Ring.rangeSet_univ, Ring.pointsTo_blocks (ℓ := (c : Thread nD τ).loc main_arg8) dnSet dnSet_disjoint dnSet_cover]
  exact bigSep_congr fun b _ => by rw [← dnChunk_set]; rfl

theorem upHeld_eq (s : Fin 2) (f) : upHeld c s f = (((c : Thread nD τ).loc cc0_scratch0) ↦[slotSet s]{fullShare} f : sProp 𝕄) :=
  congrArg (fun S => (_ ↦[S]{fullShare} f : sProp 𝕄)) (upSlot_set s)
theorem dnHeld_eq (s : Fin 2) (f) : dnHeld c s f = (((c : Thread nD τ).loc cc0_scratch1) ↦[slotSet s]{fullShare} f : sProp 𝕄) :=
  congrArg (fun S => (_ ↦[S]{fullShare} f : sProp 𝕄)) (dnSlot_set s)

/-- A two-slot buffer whole is its two slots, -/
theorem upBuf_split : iprop(∃ f : Buf (Elt F) ((c : Thread nD τ).loc cc0_scratch0), ((c : Thread nD τ).loc cc0_scratch0) ↦{fullShare} f) ⊢ (iprop((∃ f, upHeld c 0 f) ∗ ∃ f, upHeld c 1 f) : sProp 𝕄) :=
  Ring.slots2_split (ℓ := (c : Thread nD τ).loc cc0_scratch0) slotSet slotSet_disjoint slotSet_cover (upHeld c 0) (upHeld c 1) (upHeld_eq c 0) (upHeld_eq c 1)
theorem dnBuf_split : iprop(∃ f : Buf (Elt F) ((c : Thread nD τ).loc cc0_scratch1), ((c : Thread nD τ).loc cc0_scratch1) ↦{fullShare} f) ⊢ (iprop((∃ f, dnHeld c 0 f) ∗ ∃ f, dnHeld c 1 f) : sProp 𝕄) :=
  Ring.slots2_split (ℓ := (c : Thread nD τ).loc cc0_scratch1) slotSet slotSet_disjoint slotSet_cover (dnHeld c 0) (dnHeld c 1) (dnHeld_eq c 0) (dnHeld_eq c 1)
/-- and back. -/
theorem upBuf_join : iprop((∃ f, upHeld c 0 f) ∗ ∃ f, upHeld c 1 f) ⊢ (iprop(∃ f : Buf (Elt F) ((c : Thread nD τ).loc cc0_scratch0), ((c : Thread nD τ).loc cc0_scratch0) ↦{fullShare} f) : sProp 𝕄) :=
  Ring.slots2_join (ℓ := (c : Thread nD τ).loc cc0_scratch0) slotSet slotSet_disjoint slotSet_cover (upHeld c 0) (upHeld c 1) (upHeld_eq c 0) (upHeld_eq c 1)
theorem dnBuf_join : iprop((∃ f, dnHeld c 0 f) ∗ ∃ f, dnHeld c 1 f) ⊢ (iprop(∃ f : Buf (Elt F) ((c : Thread nD τ).loc cc0_scratch1), ((c : Thread nD τ).loc cc0_scratch1) ↦{fullShare} f) : sProp 𝕄) :=
  Ring.slots2_join (ℓ := (c : Thread nD τ).loc cc0_scratch1) slotSet slotSet_disjoint slotSet_cover (dnHeld c 0) (dnHeld c 1) (dnHeld_eq c 0) (dnHeld_eq c 1)

/-- The two buffers, the two weight arrays and the four semaphores at zero are the resting state, -/
theorem ring_in :
    iprop(((∃ f : Buf (Elt F) ((c : Thread nD τ).loc cc0_scratch0), ((c : Thread nD τ).loc cc0_scratch0) ↦{fullShare} f)
          ∗ (∃ f : Buf (Elt F) ((c : Thread nD τ).loc cc0_scratch1), ((c : Thread nD τ).loc cc0_scratch1) ↦{fullShare} f))
        ∗ (upCell c 0 ∗ upCell c 1 ∗ dnCell c 0 ∗ dnCell c 1)
        ∗ (((c : Thread nD τ).loc main_arg6) ↦{fullShare} XU) ∗ (((c : Thread nD τ).loc main_arg8) ↦{fullShare} XD))
      ⊢ (resting c XU XD : sProp 𝕄) := by
  rw [upArr_eq, dnArr_eq]
  iintro ⟨⟨HU, HD⟩, ⟨C0, C1, C2, C3⟩, AU, AD⟩
  ihave HU := (upBuf_split c) $$ HU
  icases HU with ⟨HU0, HU1⟩
  ihave HD := (dnBuf_split c) $$ HD
  icases HD with ⟨HD0, HD1⟩
  isplitl [AU AD]
  · isplitl [AU]; · iexact AU
    iexact AD
  isplitl [HU0]; · iexact HU0
  isplitl [HU1]; · iexact HU1
  isplitl [HD0]; · iexact HD0
  isplitl [HD1]; · iexact HD1
  isplitl [C0]; · iexact C0
  isplitl [C1]; · iexact C1
  isplitl [C2]; · iexact C2
  iexact C3
/-- and back. -/
theorem ring_out : (resting c XU XD : sProp 𝕄) ⊢
    iprop(((∃ f : Buf (Elt F) ((c : Thread nD τ).loc cc0_scratch0), ((c : Thread nD τ).loc cc0_scratch0) ↦{fullShare} f)
          ∗ (∃ f : Buf (Elt F) ((c : Thread nD τ).loc cc0_scratch1), ((c : Thread nD τ).loc cc0_scratch1) ↦{fullShare} f))
        ∗ (upCell c 0 ∗ upCell c 1 ∗ dnCell c 0 ∗ dnCell c 1)
        ∗ (((c : Thread nD τ).loc main_arg6) ↦{fullShare} XU) ∗ (((c : Thread nD τ).loc main_arg8) ↦{fullShare} XD)) := by
  rw [upArr_eq, dnArr_eq]
  iintro ⟨⟨AU, AD⟩, HU0, HU1, HD0, HD1, C0, C1, C2, C3⟩
  isplitl [HU0 HU1 HD0 HD1]
  · isplitl [HU0 HU1]
    · iapply (upBuf_join c)
      isplitl [HU0]; · iexact HU0
      iexact HU1
    iapply (dnBuf_join c)
    isplitl [HD0]; · iexact HD0
    iexact HD1
  isplitl [C0 C1 C2 C3]
  · isplitl [C0]; · iexact C0
    isplitl [C1]; · iexact C1
    isplitl [C2]; · iexact C2
    iexact C3
  isplitl [AU]; · iexact AU
  iexact AD

end State

/-! ## One point -/

section Run
variable (c : Dev nD) (XU : Buf (Elt F) (upArr.view.loc (c : Thread nD τ))) (XD : Buf (Elt F) (dnArr.view.loc (c : Thread nD τ)))
  (i : grid0.Coords)
  (arg1 : Memref sig .tc .vmem S2x1x512x1024 .f32) (harg1 : arg1.IsWhole)
  (arg2 : Memref sig .tc .vmem S1x1024 .f32) (harg2 : arg2.IsWhole)
  (arg3 : Memref sig .tc .vmem S1x1024 .f32) (harg3 : arg3.IsWhole)
  (arg4 : Memref sig .tc .vmem S1024x1024 .f32) (harg4 : arg4.IsWhole)
  (arg5 : Memref sig .tc .vmem S1x1024 .f32) (harg5 : arg5.IsWhole)
  (arg7 : Memref sig .tc .vmem S1x1x4096 .f32) (harg7 : arg7.IsWhole)
  (arg9 : Memref sig .tc .vmem S1x1x1024 .f32) (harg9 : arg9.IsWhole)
  (arg10 : Memref sig .tc .vmem S1024x1024 .f32) (harg10 : arg10.IsWhole)
  (arg11 : Memref sig .tc .vmem S1x1024 .f32) (harg11 : arg11.IsWhole)
  (arg12 : Memref sig .tc .vmem S2x1x512x1024 .f32) (harg12 : arg12.IsWhole)

variable
  (g1 : Buf (Elt F) (arg1.view.loc (c : Thread nD τ)))
  (g2 : Buf (Elt F) (arg2.view.loc (c : Thread nD τ)))
  (g3 : Buf (Elt F) (arg3.view.loc (c : Thread nD τ)))
  (g4 : Buf (Elt F) (arg4.view.loc (c : Thread nD τ)))
  (g5 : Buf (Elt F) (arg5.view.loc (c : Thread nD τ)))
  (g7 : Buf (Elt F) (arg7.view.loc (c : Thread nD τ)))
  (g9 : Buf (Elt F) (arg9.view.loc (c : Thread nD τ)))
  (g10 : Buf (Elt F) (arg10.view.loc (c : Thread nD τ)))
  (g11 : Buf (Elt F) (arg11.view.loc (c : Thread nD τ)))
  (g12 : Buf (Elt F) (arg12.view.loc (c : Thread nD τ)))

theorem nth_eq {n : ℕ} (hn : (i 0).val = n) (r : ℕ) : nth i r = Ring.bk 32 (4 * n + r) := by rw [nth, hn]

/-- Point `n` stores its block and takes the ring from its state before `n` to its state before `n + 1`. -/
theorem runAt (n : ℕ) (hn : (i 0).val = n) (W : Waits sig Unit) (K : PUnit → sProp 𝕄) :
    iprop(insP c arg1 arg2 arg3 arg4 arg5 arg7 arg9 arg10 arg11 g1 g2 g3 g4 g5 g7 g9 g10 g11 ∗ winP c arg12 g12 ∗ ringAt c XU XD n ∗ owes (c : Thread nD τ) 0 W
        ∗ (iprop(insP c arg1 arg2 arg3 arg4 arg5 arg7 arg9 arg10 arg11 g1 g2 g3 g4 g5 g7 g9 g10 g11
            ∗ outP c arg12 g12 (outAt c XU XD arg1 arg2 arg3 arg4 arg5 arg7 arg9 arg10 arg11 g1 g2 g3 g4 g5 g7 g9 g10 g11 (Ring.bk 32 (4 * n)) (Ring.bk 32 (4 * n + 1)) (Ring.bk 32 (4 * n + 2)) (Ring.bk 32 (4 * n + 3)))
            ∗ ringAt c XU XD (n + 1) ∗ (∃ W', owes (c : Thread nD τ) 0 W')) -∗ K ⟨⟩))
      ⊢ wp frame (wpE (defs₀ (F := F)) Variants.none c none) Set.univ (bodyG i arg1 harg1 arg2 harg2 arg3 harg3 arg4 harg4 arg5 harg5 arg7 harg7 arg9 harg9 arg10 harg10 arg11 harg11 arg12 harg12) K := by
  have h8 : n < 8 := hn ▸ (i 0).isLt
  rcases Nat.eq_zero_or_pos n with h0 | h0
  · subst h0
    rw [ringAt_zero, ringAt_flying c XU XD (show 0 < 0 + 1 by omega) (by omega)]
    iintro ⟨Hin, H12, ⟨Hh, Hr⟩, HW, Hk⟩
    ihave Hh := (homes_split c XU XD (show 0 ≤ 2 by omega) (show 2 ≤ 32 by omega)) $$ Hh
    icases Hh with ⟨Ha, Hh⟩
    ihave Hh := (homes_split c XU XD (show 2 ≤ 4 by omega) (show 4 ≤ 32 by omega)) $$ Hh
    icases Hh with ⟨Hb, Hh⟩
    ihave Hh := (homes_split c XU XD (show 4 ≤ 6 by omega) (show 6 ≤ 32 by omega)) $$ Hh
    icases Hh with ⟨Hc, Hh⟩
    ihave Ha := (homes2 c XU XD 0 (by omega)) $$ Ha
    ihave Hb := (homes2 c XU XD 2 (by omega)) $$ Hb
    ihave Hc := (homes2 c XU XD 4 (by omega)) $$ Hc
    icases Ha with ⟨P0, P1⟩
    icases Hb with ⟨P2, P3⟩
    icases Hc with ⟨P4, P5⟩
    iapply (firstRun c XU XD i arg1 harg1 arg2 harg2 arg3 harg3 arg4 harg4 arg5 harg5 arg7 harg7 arg9 harg9 arg10 harg10 arg11 harg11 arg12 harg12 g1 g2 g3 g4 g5 g7 g9 g10 g11 g12 hn W K)
    irw [nth_eq i hn 0, nth_eq i hn 1, nth_eq i hn 2, nth_eq i hn 3, nth_eq i hn 4, nth_eq i hn 5]
    isplitl [Hin]; · iexact Hin
    isplitl [H12]; · iexact H12
    isplitl [Hr]; · iexact Hr
    isplitl [P0]; · iexact P0
    isplitl [P1]; · iexact P1
    isplitl [P2]; · iexact P2
    isplitl [P3]; · iexact P3
    isplitl [P4]; · iexact P4
    isplitl [P5]; · iexact P5
    isplitl [HW]; · iexact HW
    iintro ⟨Hin, H12, Hf, P0, P1, P2, P3, HW⟩
    iapply Hk
    isplitl [Hin]; · iexact Hin
    isplitl [H12]; · iexact H12
    isplitl [Hf P0 P1 P2 P3 Hh]
    · isplitl [P0 P1 P2 P3]
      · iapply (homes4 c XU XD 0 (by omega))
        isplitl [P0]; · iexact P0
        isplitl [P1]; · iexact P1
        isplitl [P2]; · iexact P2
        iexact P3
      isplitl [Hh]; · iexact Hh
      iexact Hf
    iexact HW
  by_cases h7 : n = 7
  · subst h7
    rw [ringAt_eight, ringAt_flying c XU XD h0 h8]
    iintro ⟨Hin, H12, ⟨Hl, Hb, Hf⟩, HW, Hk⟩
    ihave Hb := (homes2 c XU XD 30 (by omega)) $$ Hb
    icases Hb with ⟨P2, P3⟩
    iapply (lastRun c XU XD i arg1 harg1 arg2 harg2 arg3 harg3 arg4 harg4 arg5 harg5 arg7 harg7 arg9 harg9 arg10 harg10 arg11 harg11 arg12 harg12 g1 g2 g3 g4 g5 g7 g9 g10 g11 g12 hn W K)
    irw [nth_eq i hn 0, nth_eq i hn 1, nth_eq i hn 2, nth_eq i hn 3]
    isplitl [Hin]; · iexact Hin
    isplitl [H12]; · iexact H12
    isplitl [Hf]; · iexact Hf
    isplitl [P2]; · iexact P2
    isplitl [P3]; · iexact P3
    isplitl [HW]; · iexact HW
    iintro ⟨Hin, H12, Hr, P0, P1, P2, P3, HW⟩
    iapply Hk
    isplitl [Hin]; · iexact Hin
    isplitl [H12]; · iexact H12
    isplitl [Hl Hr P0 P1 P2 P3]
    · isplitl [Hl P0 P1 P2 P3]
      · iapply (homes_join c XU XD (show 0 ≤ 28 by omega) (show 28 ≤ 32 by omega))
        isplitl [Hl]; · iexact Hl
        iapply (homes4 c XU XD 28 (by omega))
        isplitl [P0]; · iexact P0
        isplitl [P1]; · iexact P1
        isplitl [P2]; · iexact P2
        iexact P3
      iexact Hr
    iexact HW
  · rw [ringAt_flying c XU XD h0 h8, ringAt_flying c XU XD (show 0 < n + 1 by omega) (by omega)]
    iintro ⟨Hin, H12, ⟨Hl, Hh, Hf⟩, HW, Hk⟩
    ihave Hh := (homes_split c XU XD (show 4 * n + 2 ≤ 4 * n + 4 by omega) (show 4 * n + 4 ≤ 32 by omega)) $$ Hh
    icases Hh with ⟨Hb, Hh⟩
    ihave Hh := (homes_split c XU XD (show 4 * n + 4 ≤ 4 * n + 6 by omega) (show 4 * n + 6 ≤ 32 by omega)) $$ Hh
    icases Hh with ⟨Hc, Hh⟩
    ihave Hb := (homes2 c XU XD (4 * n + 2) (by omega)) $$ Hb
    ihave Hc := (homes2 c XU XD (4 * n + 4) (by omega)) $$ Hc
    icases Hb with ⟨P2, P3⟩
    icases Hc with ⟨P4, P5⟩
    iapply (midRun c XU XD i arg1 harg1 arg2 harg2 arg3 harg3 arg4 harg4 arg5 harg5 arg7 harg7 arg9 harg9 arg10 harg10 arg11 harg11 arg12 harg12 g1 g2 g3 g4 g5 g7 g9 g10 g11 g12 (by omega) (by omega) W K)
    irw [nth_eq i hn 0, nth_eq i hn 1, nth_eq i hn 2, nth_eq i hn 3, nth_eq i hn 4, nth_eq i hn 5]
    isplitl [Hin]; · iexact Hin
    isplitl [H12]; · iexact H12
    isplitl [Hf]; · iexact Hf
    isplitl [P2]; · iexact P2
    isplitl [P3]; · iexact P3
    isplitl [P4]; · iexact P4
    isplitl [P5]; · iexact P5
    isplitl [HW]; · iexact HW
    iintro ⟨Hin, H12, Hf, P0, P1, P2, P3, HW⟩
    iapply Hk
    isplitl [Hin]; · iexact Hin
    isplitl [H12]; · iexact H12
    isplitl [Hl Hf P0 P1 P2 P3 Hh]
    · isplitl [Hl P0 P1 P2 P3]
      · iapply (homes_join c XU XD (show 0 ≤ 4 * n by omega) (show 4 * n ≤ 4 * (n + 1) by omega))
        isplitl [Hl]; · iexact Hl
        iapply (homes4 c XU XD (4 * n) (by omega))
        isplitl [P0]; · iexact P0
        isplitl [P1]; · iexact P1
        isplitl [P2]; · iexact P2
        iexact P3
      isplitl [Hh]; · iexact Hh
      iexact Hf
    iexact HW

end Run

end Cert.KernelIdeal.Hand

end
-- ==== Proof.KernelIdeal.Run.lean ====
/-
  The launch. The body's obligation at every point, on the windows' staging buffers: the inputs at their blocks of the
  arrays, the output at the stored block, the ring from its state before the point to its state after it. Then @main's
  run: it terminates, nothing faults, every semaphore counter ends at zero, the pipeline's arrays end at the proof
  data's, and the argument arrays end as launched.
-/
module

public import proofs.«01_k».proof.Proof.KernelIdeal.Homes

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (Pipeline.UD sig nD τ) ℕ

/-! ## One point, on what the staging buffers read -/

section Point
variable (c : Dev nD) (XU : Buf (Elt F) (upArr.view.loc (c : Thread nD τ))) (XD : Buf (Elt F) (dnArr.view.loc (c : Thread nD τ)))
  (i : grid0.Coords)
  (arg1 : Memref sig .tc .vmem S2x1x512x1024 .f32) (harg1 : arg1.IsWhole)
  (arg2 : Memref sig .tc .vmem S1x1024 .f32) (harg2 : arg2.IsWhole)
  (arg3 : Memref sig .tc .vmem S1x1024 .f32) (harg3 : arg3.IsWhole)
  (arg4 : Memref sig .tc .vmem S1024x1024 .f32) (harg4 : arg4.IsWhole)
  (arg5 : Memref sig .tc .vmem S1x1024 .f32) (harg5 : arg5.IsWhole)
  (arg7 : Memref sig .tc .vmem S1x1x4096 .f32) (harg7 : arg7.IsWhole)
  (arg9 : Memref sig .tc .vmem S1x1x1024 .f32) (harg9 : arg9.IsWhole)
  (arg10 : Memref sig .tc .vmem S1024x1024 .f32) (harg10 : arg10.IsWhole)
  (arg11 : Memref sig .tc .vmem S1x1024 .f32) (harg11 : arg11.IsWhole)
  (arg12 : Memref sig .tc .vmem S2x1x512x1024 .f32) (harg12 : arg12.IsWhole)

/-- Point `n` on inputs that read `X…`: the output buffer then reads the stored block. -/
theorem pointRun (n : ℕ) (hn : (i 0).val = n) (X1 : Vec F S2x1x512x1024 .f32) (X2 : Vec F S1x1024 .f32) (X3 : Vec F S1x1024 .f32) (X4 : Vec F S1024x1024 .f32) (X5 : Vec F S1x1024 .f32) (X7 : Vec F S1x1x4096 .f32) (X9 : Vec F S1x1x1024 .f32) (X10 : Vec F S1024x1024 .f32) (X11 : Vec F S1x1024 .f32)
    (W : Waits sig Unit) (K : PUnit → sProp 𝕄) :
    iprop(((owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg7 fullShare X7 ∗ owns (c : Thread nD τ) arg9 fullShare X9 ∗ owns (c : Thread nD τ) arg10 fullShare X10 ∗ owns (c : Thread nD τ) arg11 fullShare X11)
          ∗ (∃ X, owns (c : Thread nD τ) arg12 fullShare X)) ∗ ringAt c XU XD n ∗ owes (c : Thread nD τ) 0 W
        ∗ (iprop(((owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg7 fullShare X7 ∗ owns (c : Thread nD τ) arg9 fullShare X9 ∗ owns (c : Thread nD τ) arg10 fullShare X10 ∗ owns (c : Thread nD τ) arg11 fullShare X11)
            ∗ owns (c : Thread nD τ) arg12 fullShare (outBlk X1 X2 X3 X4 X5 X7 X9 X10 X11
              (sheet (upWords c XU (Ring.bk 32 (4 * n)))) (sheet (upWords c XU (Ring.bk 32 (4 * n + 1)))) (sheet (upWords c XU (Ring.bk 32 (4 * n + 2)))) (sheet (upWords c XU (Ring.bk 32 (4 * n + 3))))
              (sheet (dnWords c XD (Ring.bk 32 (4 * n)))) (sheet (dnWords c XD (Ring.bk 32 (4 * n + 1)))) (sheet (dnWords c XD (Ring.bk 32 (4 * n + 2)))) (sheet (dnWords c XD (Ring.bk 32 (4 * n + 3))))))
            ∗ ringAt c XU XD (n + 1) ∗ (∃ W', owes (c : Thread nD τ) 0 W')) -∗ K ⟨⟩))
      ⊢ wp frame (wpE (defs₀ (F := F)) Variants.none c none) Set.univ (bodyG i arg1 harg1 arg2 harg2 arg3 harg3 arg4 harg4 arg5 harg5 arg7 harg7 arg9 harg9 arg10 harg10 arg11 harg11 arg12 harg12) K := by
  unfold owns
  iintro ⟨⟨⟨⟨%g1, %e1, H1⟩, ⟨%g2, %e2, H2⟩, ⟨%g3, %e3, H3⟩, ⟨%g4, %e4, H4⟩, ⟨%g5, %e5, H5⟩, ⟨%g7, %e7, H7⟩, ⟨%g9, %e9, H9⟩, ⟨%g10, %e10, H10⟩, ⟨%g11, %e11, H11⟩⟩, ⟨%X12, %g12, %e12, H12⟩⟩, HR, HW, Hk⟩
  subst e1 e2 e3 e4 e5 e7 e9 e10 e11
  iapply (runAt c XU XD i arg1 harg1 arg2 harg2 arg3 harg3 arg4 harg4 arg5 harg5 arg7 harg7 arg9 harg9 arg10 harg10 arg11 harg11 arg12 harg12 g1 g2 g3 g4 g5 g7 g9 g10 g11 g12 n hn W K)
  isplitl [H1 H2 H3 H4 H5 H7 H9 H10 H11]
  · isplitl [H1]; · iexact H1
    isplitl [H2]; · iexact H2
    isplitl [H3]; · iexact H3
    isplitl [H4]; · iexact H4
    isplitl [H5]; · iexact H5
    isplitl [H7]; · iexact H7
    isplitl [H9]; · iexact H9
    isplitl [H10]; · iexact H10
    iexact H11
  isplitl [H12]; · iexact H12
  isplitl [HR]; · iexact HR
  isplitl [HW]; · iexact HW
  iintro ⟨⟨H1, H2, H3, H4, H5, H7, H9, H10, H11⟩, H12, HR, HW⟩
  iapply Hk
  isplitl [H1 H2 H3 H4 H5 H7 H9 H10 H11 H12]
  · isplitl [H1 H2 H3 H4 H5 H7 H9 H10 H11]
    · isplitl [H1]
      · iexists _; isplitr; swap; iexact H1; ipureintro; rfl
      isplitl [H2]
      · iexists _; isplitr; swap; iexact H2; ipureintro; rfl
      isplitl [H3]
      · iexists _; isplitr; swap; iexact H3; ipureintro; rfl
      isplitl [H4]
      · iexists _; isplitr; swap; iexact H4; ipureintro; rfl
      isplitl [H5]
      · iexists _; isplitr; swap; iexact H5; ipureintro; rfl
      isplitl [H7]
      · iexists _; isplitr; swap; iexact H7; ipureintro; rfl
      isplitl [H9]
      · iexists _; isplitr; swap; iexact H9; ipureintro; rfl
      isplitl [H10]
      · iexists _; isplitr; swap; iexact H10; ipureintro; rfl
      iexists _; isplitr; swap; iexact H11; ipureintro; rfl
    iexists _; isplitr
    swap; · iexact H12
    ipureintro
    exact View.read_writes_full _ _ _ _ []
  isplitl [HR]; · iexact HR
  iexact HW

end Point

/-! ## @main around the region -/

section Launch
variable (m : (ℓ : Loc nD τ sig) → Buf (Elt F) ℓ) (ρ : Dev nD → PrngReg)

set_option maxHeartbeats 800000 in
/-- @main is the region between its host lines. -/
theorem hmainD : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

/-- The body's own semaphores: one for each slot of each buffer. -/
abbrev osem0 : Fin 4 → SemLoc sig :=
  fun j => (![SemLoc.dma (upSem 0).sem, SemLoc.dma (upSem 1).sem, SemLoc.dma (dnSem 0).sem, SemLoc.dma (dnSem 1).sem] : Fin 4 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(upCell c 0 ∗ upCell c 1 ∗ dnCell c 0 ∗ dnCell c 1) := by
  rw [Pipeline.ownSems0_eq_of_list c osem0 [0, 1, 2, 3] (by decide) (by decide)]; rfl
/-- The arrays the body's own transfers read: the two weight arrays. -/
def H0 : Finset (Ref sig .tc) := {main_arg6, main_arg8}
theorem H0_sub : H0 ⊆ Pipeline.restRefs sig spec0 := by decide

/-- The weight arrays as the region finds them. -/
abbrev XU (c : Dev nD) : Buf (Elt F) (upArr.view.loc (c : Thread nD τ)) := V m c main_arg6
abbrev XD (c : Dev nD) : Buf (Elt F) (dnArr.view.loc (c : Thread nD τ)) := V m c main_arg8

theorem hbmPts0_eq (c : Dev nD) :
    (bigSep H0 (fun b => ((c : Thread nD τ).loc b) ↦{fullShare} V m c b) : sProp 𝕄)
      = iprop((((c : Thread nD τ).loc main_arg6) ↦{fullShare} XU m c) ∗ (((c : Thread nD τ).loc main_arg8) ↦{fullShare} XD m c)) := by
  rw [BI.bigSep_eq_bigSepL_of_eq [main_arg6, main_arg8] (by decide) (by decide)]; rfl

/-! ## The proof data -/

/-- What point `t` stores. -/
def outsAt (c : Dev nD) (t : Fin cfg0.N) : Vec F S2x1x512x1024 .f32 :=
  outBlk (iblk m c 0 t) (iblk m c 1 t) (iblk m c 2 t) (iblk m c 3 t) (iblk m c 4 t) (iblk m c 5 t) (iblk m c 6 t) (iblk m c 7 t) (iblk m c 8 t)
    (sheet (upWords c (XU m c) (Ring.bk 32 (4 * t.val)))) (sheet (upWords c (XU m c) (Ring.bk 32 (4 * t.val + 1)))) (sheet (upWords c (XU m c) (Ring.bk 32 (4 * t.val + 2)))) (sheet (upWords c (XU m c) (Ring.bk 32 (4 * t.val + 3))))
    (sheet (dnWords c (XD m c) (Ring.bk 32 (4 * t.val)))) (sheet (dnWords c (XD m c) (Ring.bk 32 (4 * t.val + 1)))) (sheet (dnWords c (XD m c) (Ring.bk 32 (4 * t.val + 2)))) (sheet (dnWords c (XD m c) (Ring.bk 32 (4 * t.val + 3))))

/-- The proof data on core `c`: the arrays as the region finds them, every input block left in place, the output at
    the stored block, the ring at its state before the point. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outsAt m c t
  Φ t := iprop(ringAt c (XU m c) (XD m c) t.val ∗ ∃ r, prngReg c r)
  q _ := fullShare
  owed _ := 0

theorem A_eq (c : Dev nD) (w : Fin cfg0.W) : (dats m 0 c).A w = V m c (Pipeline.arrRef spec0 w) := by
  dsimp only [dats]
theorem after_out (c : Dev nD) (t : Fin cfg0.N) : (dats m 0 c).after 9 t = outsAt m c t := by dsimp only [dats]

/-- An input window whose block the body leaves in place is found at its block. -/
theorem before_in (c : Dev nD) (w : Fin cfg0.W) (hw : (cfg0.win w).isOut = false) (hlive : ∀ i, cfg0.idle w i = false)
    (hclip : ∀ t t' : Fin cfg0.N, (cfg0.win w).index t = (cfg0.win w).index t' →
      (cfg0.win w).clip (cfg0.grid.coords t) = (cfg0.win w).clip (cfg0.grid.coords t'))
    (hkeep : ∀ t, (cfg0.win w).cut (cfg0.grid.coords t) ((dats m 0 c).after w t) = (dats m 0 c).blockOf w t)
    (t : Fin cfg0.N) (d) : (dats m 0 c).before w t d = (dats m 0 c).fetched w t d :=
  (dats m 0 c).before_in_eq_fetched w hw hlive hclip hkeep t d
theorem before_0 (c : Dev nD) (t : Fin cfg0.N) (d) : (dats m 0 c).before 0 t d = iblk m c 0 t :=
  before_in m c 0 rfl (fun _ => rfl) (fun _ _ _ => rfl) (fun _ => rfl) t d
theorem before_1 (c : Dev nD) (t : Fin cfg0.N) (d) : (dats m 0 c).before 1 t d = iblk m c 1 t :=
  before_in m c 1 rfl (fun _ => rfl) (fun _ _ _ => rfl) (fun _ => rfl) t d
theorem before_2 (c : Dev nD) (t : Fin cfg0.N) (d) : (dats m 0 c).before 2 t d = iblk m c 2 t :=
  before_in m c 2 rfl (fun _ => rfl) (fun _ _ _ => rfl) (fun _ => rfl) t d
theorem before_3 (c : Dev nD) (t : Fin cfg0.N) (d) : (dats m 0 c).before 3 t d = iblk m c 3 t :=
  before_in m c 3 rfl (fun _ => rfl) (fun _ _ _ => rfl) (fun _ => rfl) t d
theorem before_4 (c : Dev nD) (t : Fin cfg0.N) (d) : (dats m 0 c).before 4 t d = iblk m c 4 t :=
  before_in m c 4 rfl (fun _ => rfl) (fun _ _ _ => rfl) (fun _ => rfl) t d
theorem before_5 (c : Dev nD) (t : Fin cfg0.N) (d) : (dats m 0 c).before 5 t d = iblk m c 5 t :=
  before_in m c 5 rfl (fun _ => rfl) (fun _ _ _ => rfl) (fun _ => rfl) t d
theorem before_6 (c : Dev nD) (t : Fin cfg0.N) (d) : (dats m 0 c).before 6 t d = iblk m c 6 t :=
  before_in m c 6 rfl (fun _ => rfl) (fun _ _ _ => rfl) (fun _ => rfl) t d
theorem before_7 (c : Dev nD) (t : Fin cfg0.N) (d) : (dats m 0 c).before 7 t d = iblk m c 7 t :=
  before_in m c 7 rfl (fun _ => rfl) (fun _ _ _ => rfl) (fun _ => rfl) t d
theorem before_8 (c : Dev nD) (t : Fin cfg0.N) (d) : (dats m 0 c).before 8 t d = iblk m c 8 t :=
  before_in m c 8 rfl (fun _ => rfl) (fun _ _ _ => rfl) (fun _ => rfl) t d
theorem coords_val (t : Fin cfg0.N) : (grid0.coords t 0).val = t.val :=
  (by decide : ∀ t : Fin grid0.N, (grid0.coords t 0).val = t.val) t

/-! ## The body's obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).Φ t.castSucc = iprop(ringAt c (XU m c) (XD m c) t.val ∗ ∃ r, prngReg c r) from rfl,
    show (dats m 0 c).Φ t.succ = iprop(ringAt c (XU m c) (XD m c) (t.val + 1) ∗ ∃ r, prngReg c r) from rfl]
  unfold Dat.owesAt Pipeline.owesWithin
  rw [show (dats m 0 c).owed t.castSucc = 0 from rfl, show (dats m 0 c).owed t.succ = 0 from rfl]
  iintro ⟨⟨HR, Hg⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (pointRun c (XU m c) (XD m c) (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) t.val (coords_val t) (iblk m c 0 t) (iblk m c 1 t) (iblk m c 2 t) (iblk m c 3 t) (iblk m c 4 t) (iblk m c 5 t) (iblk m c 6 t) (iblk m c 7 t) (iblk m c 8 t) W _)
  isplitl [H0 H1 H2 H3 H4 H5 H6 H7 H8 H9]
  · isplitl [H0 H1 H2 H3 H4 H5 H6 H7 H8]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    iexists _; iexact H9
  isplitl [HR]; · iexact HR
  isplitl [HW]; · iexact HW
  iintro ⟨⟨⟨H0, H1, H2, H3, H4, H5, H6, H7, H8⟩, H9⟩, HR, ⟨%W', HW'⟩⟩
  isplitl [HR Hg]
  · isplitl [HR]; · iexact HR
    iexact Hg
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- The host line after the region touches neither weight array. -/
theorem sfx_but : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  have hs := (List.forall_iff_forall_mem.mp hostOps1_sub) op hop
  simp only [hostOps1, List.mem_cons, List.mem_nil_iff, or_false] at hop
  rcases hop with rfl
  refine Pipeline.sub_tailRefsBut _ _ _ _ hs (fun k => k.elim0) fun b hb => ?_
  simp only [H0, Finset.mem_insert, Finset.mem_singleton] at hb
  rcases hb with rfl | rfl <;>
    simp only [StableHlo.reshape_bufs, Finset.mem_insert, Finset.mem_singleton, not_or] <;>
    exact ⟨StableHlo.devRef_ne_of_ne (by decide), StableHlo.devRef_ne_of_ne (by decide)⟩

set_option backward.isDefEq.respectTransparency.types false in
/-- @main's run: the arrays end at the proof data's, the other buffers at what the last host line leaves, every counter at
    zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_but) (hfresh := sfx_fresh) (hkeep := sfx_keeps)
    (hmain := hmainD m) (hA := A_eq m)
    (hin := fun c => by
      rw [Pipeline.ΦD_eq, scopedRest0_eq, ownSems00_eq, show (dats m 0 c).Φ 0 = iprop(ringAt c (XU m c) (XD m c) 0 ∗ ∃ r, prngReg c r) from rfl, ringAt_zero,
        show (bigSep H0 (fun b => ((c.tc : Thread nD τ).loc b) ↦{fullShare} V0 m c (Proc.devRef .tc b)) : sProp 𝕄) = _ from hbmPts0_eq m c]
      iintro ⟨HS, Hg, HC, HA⟩
      isplitr [Hg]
      · iapply (ring_in c (XU m c) (XD m c))
        isplitl [HS]; · iexact HS
        isplitl [HC]; · iexact HC
        iexact HA
      iexact Hg)
    (hout := fun c => by
      rw [Pipeline.ΦD_eq, scopedRest0_eq, ownSems00_eq, show (dats m 0 c).Φ (Fin.last cfg0.N) = iprop(ringAt c (XU m c) (XD m c) 8 ∗ ∃ r, prngReg c r) from rfl, ringAt_eight,
        show (bigSep H0 (fun b => ((c.tc : Thread nD τ).loc b) ↦{fullShare} V0 m c (Proc.devRef .tc b)) : sProp 𝕄) = _ from hbmPts0_eq m c]
      iintro ⟨HR, Hg⟩
      ihave HR := (ring_out c (XU m c) (XD m c)) $$ HR
      icases HR with ⟨HS, HC, HA⟩
      isplitl [HS]; · iexact HS
      isplitl [Hg]; · iexact Hg
      isplitl [HC]; · iexact HC
      iexact HA)

/-- A buffer that is no array of the pipeline and not the result ends as the region found it. -/
theorem tail_kept (c : Dev nD) (b : Ref sig .tc) (hb : ∀ w, Pipeline.arrRef spec0 w ≠ b) (h8 : b ≠ main_v8) :
    Pipeline.afterTail₀ cfgs (dats m) 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.Forall, StableHlo.reshape_writes, Finset.mem_singleton]
      exact StableHlo.devRef_ne_of_ne h8)),
    Pipeline.withArrays_of_ne _ c (V0 m c) _ b hb]

/-- Every argument array ends as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun _ h => ⟨fun c => ⟨((h.1 c).2 main_arg0 (Pipeline.mem_restRefs_of main_arg0 (by decide) (by decide))).trans ((tail_kept m c main_arg0 (by decide) (by decide)).trans (V_main_arg0 m c)),
      ((h.1 c).2 main_arg1 (Pipeline.mem_restRefs_of main_arg1 (by decide) (by decide))).trans ((tail_kept m c main_arg1 (by decide) (by decide)).trans (V_main_arg1 m c)),
      ((h.1 c).2 main_arg2 (Pipeline.mem_restRefs_of main_arg2 (by decide) (by decide))).trans ((tail_kept m c main_arg2 (by decide) (by decide)).trans (V_main_arg2 m c)),
      ((h.1 c).1 3).trans (((dats m 0 c).arrAt_in 3 rfl _).trans ((A_eq m c 3).trans (V_main_arg3 m c))),
      ((h.1 c).2 main_arg4 (Pipeline.mem_restRefs_of main_arg4 (by decide) (by decide))).trans ((tail_kept m c main_arg4 (by decide) (by decide)).trans (V_main_arg4 m c)),
      ((h.1 c).2 main_arg5 (Pipeline.mem_restRefs_of main_arg5 (by decide) (by decide))).trans ((tail_kept m c main_arg5 (by decide) (by decide)).trans (V_main_arg5 m c)),
      ((h.1 c).2 main_arg6 (Pipeline.mem_restRefs_of main_arg6 (by decide) (by decide))).trans ((tail_kept m c main_arg6 (by decide) (by decide)).trans (V_main_arg6 m c)),
      ((h.1 c).2 main_arg7 (Pipeline.mem_restRefs_of main_arg7 (by decide) (by decide))).trans ((tail_kept m c main_arg7 (by decide) (by decide)).trans (V_main_arg7 m c)),
      ((h.1 c).2 main_arg8 (Pipeline.mem_restRefs_of main_arg8 (by decide) (by decide))).trans ((tail_kept m c main_arg8 (by decide) (by decide)).trans (V_main_arg8 m c)),
      ((h.1 c).2 main_arg9 (Pipeline.mem_restRefs_of main_arg9 (by decide) (by decide))).trans ((tail_kept m c main_arg9 (by decide) (by decide)).trans (V_main_arg9 m c)),
      ((h.1 c).1 7).trans (((dats m 0 c).arrAt_in 7 rfl _).trans ((A_eq m c 7).trans (V_main_arg10 m c))),
      ((h.1 c).2 main_arg11 (Pipeline.mem_restRefs_of main_arg11 (by decide) (by decide))).trans ((tail_kept m c main_arg11 (by decide) (by decide)).trans (V_main_arg11 m c))⟩, h.2⟩) (run_main m ρ)

end Launch

end Cert.KernelIdeal.Hand

end
-- ==== Proof.Value.Token.lean ====
/-
  What one token's row becomes, over the extended reals: layer normalisation, a linear map with its residual, an expert's
  two linear maps with a gelu between them, a last linear map and a gelu. This module names these functions of a row and
  proves the laws that let the kernel's spelling and the reference's meet at them.
-/
module

public import Idealize.ShloMosaic.Lib.Pointwise

@[expose] public section

noncomputable section

namespace Cert.Token

open Idealize.ShloMosaic

/-! ## The constants both programs spell by their bits -/

abbrev width : EReal := Ideal.ofBits .f32 0x44800000#32
abbrev eps : EReal := Ideal.ofBits .f32 0x3727C5AC#32
abbrev half : EReal := Ideal.ofBits .f32 0x3F000000#32
abbrev rootHalf : EReal := Ideal.ofBits .f32 0x3F3504F3#32

theorem width_eq : width = ((1024 : ℝ) : EReal) := by
  simp [width, Ideal.ofBits, Ideal.ieee]
  rw [← EReal.coe_mul]
  norm_num

theorem eps_pos : 0 < eps := by
  simp [eps, Ideal.ofBits, Ideal.ieee]
  rw [← EReal.coe_mul]
  exact_mod_cast (by positivity : (0 : ℝ) < 10995116 * (2 ^ 40)⁻¹)

/-! ## The functions of a row -/

/-- The mean of a row. -/
def mean (x : Fin 1024 → EReal) : EReal := Ideal.div (∑ k, x k) width
/-- The mean square distance of a row from its mean. -/
def spread (x : Fin 1024 → EReal) : EReal := Ideal.div (∑ k, (x k - mean x) * (x k - mean x)) width
/-- The row normalised, scaled by `ga` and shifted by `be`. -/
def normed (x ga be : Fin 1024 → EReal) (k : Fin 1024) : EReal :=
  (x k - mean x) * Ideal.rsqrt (spread x + eps) * ga k + be k
/-- The normalised row through the first linear map, and the row added back. -/
def mixed (x ga be : Fin 1024 → EReal) (wa : Fin 1024 → Fin 1024 → EReal) (ba : Fin 1024 → EReal) (j : Fin 1024) : EReal :=
  (∑ k, normed x ga be k * wa j k) + ba j + x j
/-- The gelu, by the error function. -/
def gelu (z : EReal) : EReal := half * z * (1 + Ideal.erf (z * rootHalf))
/-- One unit of the expert's hidden layer. -/
def hiddenUnit {n : ℕ} (a : Fin 1024 → EReal) (up : Fin 1024 → Fin n → EReal) (b1 : Fin n → EReal) (f : Fin n) : EReal :=
  gelu ((∑ k, a k * up k f) + b1 f)
/-- One unit of the expert's result. -/
def expert (a : Fin 1024 → EReal) (up : Fin 1024 → Fin 4096 → EReal) (b1 : Fin 4096 → EReal) (dn : Fin 4096 → Fin 1024 → EReal)
    (b2 : Fin 1024 → EReal) (d : Fin 1024) : EReal :=
  (∑ f, hiddenUnit a up b1 f * dn f d) + b2 d
/-- The last layer. -/
def last (o : Fin 1024 → EReal) (wn : Fin 1024 → Fin 1024 → EReal) (bn : Fin 1024 → EReal) (j : Fin 1024) : EReal :=
  gelu ((∑ d, o d * wn j d) + bn j)
/-- A token's whole way. -/
def token (x ga be : Fin 1024 → EReal) (wa : Fin 1024 → Fin 1024 → EReal) (ba : Fin 1024 → EReal)
    (up : Fin 1024 → Fin 4096 → EReal) (b1 : Fin 4096 → EReal) (dn : Fin 4096 → Fin 1024 → EReal) (b2 : Fin 1024 → EReal)
    (wn : Fin 1024 → Fin 1024 → EReal) (bn : Fin 1024 → EReal) : Fin 1024 → EReal :=
  last (expert (mixed x ga be wa ba) up b1 dn b2) wn bn

/-! ## The whole result -/

/-- The expert of the `s`-th token of a batch row: the 4096 tokens go to the 8 experts in groups of 512. -/
def owner (s : Fin 4096) : Fin 8 := ⟨s.val / 512, by omega⟩

/-- The result at unit `j` of token `s` of batch row `p`, of the eleven arrays it depends on. -/
def answer (x : Vec Ideal ⟨3, ![2, 4096, 1024]⟩ .f32) (ga be : Vec Ideal ⟨1, ![1024]⟩ .f32) (wa : Vec Ideal ⟨2, ![1024, 1024]⟩ .f32)
    (ba : Vec Ideal ⟨1, ![1024]⟩ .f32) (up : Vec Ideal ⟨3, ![8, 1024, 4096]⟩ .f32) (b1 : Vec Ideal ⟨2, ![8, 4096]⟩ .f32)
    (dn : Vec Ideal ⟨3, ![8, 4096, 1024]⟩ .f32) (b2 : Vec Ideal ⟨2, ![8, 1024]⟩ .f32) (wn : Vec Ideal ⟨2, ![1024, 1024]⟩ .f32)
    (bn : Vec Ideal ⟨1, ![1024]⟩ .f32) (p : Fin 2) (s : Fin 4096) (j : Fin 1024) : EReal :=
  token (fun k => x (ix3 p s k)) (fun k => ga (ix1 k)) (fun k => be (ix1 k)) (fun j k => wa (ix2 j k)) (fun k => ba (ix1 k))
    (fun k f => up (ix3 (owner s) k f)) (fun f => b1 (ix2 (owner s) f)) (fun f d => dn (ix3 (owner s) f d))
    (fun d => b2 (ix2 (owner s) d)) (fun j d => wn (ix2 j d)) (fun j => bn (ix1 j)) j

/-! ## The laws -/

/-- A square is not negative. -/
theorem square_nonneg (a : EReal) : 0 ≤ a * a := by
  rcases le_total 0 a with h | h
  · exact mul_nonneg h h
  · rw [← neg_mul_neg]; exact mul_nonneg (EReal.neg_nonneg.mpr h) (EReal.neg_nonneg.mpr h)

theorem width_ne : width ≠ 0 := by rw [width_eq]; exact_mod_cast (by norm_num : (1024 : ℝ) ≠ 0)
theorem width_pos : 0 < width := by rw [width_eq]; exact_mod_cast (by norm_num : (0 : ℝ) < 1024)

/-- The mean square distance is not negative. -/
theorem spread_nonneg (x : Fin 1024 → EReal) : 0 ≤ spread x := by
  unfold spread Ideal.div
  rw [if_neg width_ne, width_eq, ← EReal.coe_inv]
  exact mul_nonneg (Finset.sum_nonneg fun k _ => square_nonneg _) (by exact_mod_cast (by norm_num : (0 : ℝ) ≤ (1024 : ℝ)⁻¹))

/-- What the root is taken of is above zero. -/
theorem spread_eps_pos (x : Fin 1024 → EReal) : 0 < spread x + eps :=
  lt_of_lt_of_le eps_pos (le_add_of_nonneg_left (spread_nonneg x))

/-- Above zero, dividing by the root is multiplying by the inverse root. -/
theorem div_sqrt (a v : EReal) (hv : 0 < v) : Ideal.div a (Ideal.sqrt v) = a * Ideal.rsqrt v := by
  induction v with
  | bot => exact absurd hv (by simp)
  | top =>
    show Ideal.div a ⊤ = a * 0
    unfold Ideal.div
    rw [if_neg (by simp), EReal.inv_top]
  | coe r =>
    have hr : 0 < r := by exact_mod_cast hv
    have hs : Real.sqrt r ≠ 0 := (Real.sqrt_pos.mpr hr).ne'
    show Ideal.div a (if r < 0 then (⊥ : EReal) else (Real.sqrt r : EReal))
      = a * (if r < 0 then (⊥ : EReal) else if r = 0 then (⊤ : EReal) else (((Real.sqrt r)⁻¹ : ℝ) : EReal))
    rw [if_neg hr.not_gt, if_neg hr.not_gt, if_neg hr.ne']
    unfold Ideal.div
    rw [if_neg (by exact_mod_cast hs), EReal.coe_inv]

/-- The reference's gelu, by the complementary error function of the negated argument, is the kernel's. -/
theorem gelu_erfc (z : EReal) : half * z * Ideal.erfc (-z * rootHalf) = gelu z := by
  rw [neg_mul, Ideal.erfc_neg]; rfl

/-- A part of the hidden layer, by the part of its weights and its bias, is those units of the whole layer. -/
theorem hiddenUnit_part {n : ℕ} (a : Fin 1024 → EReal) (up : Fin 1024 → Fin n → EReal) (b1 : Fin n → EReal) (c : Fin 1024 → EReal)
    (g : Fin 1024 → Fin n) (hc : ∀ f, c f = b1 (g f)) (f : Fin 1024) :
    hiddenUnit a (fun k f => up k (g f)) c f = hiddenUnit a up b1 (g f) := by
  unfold hiddenUnit; rw [hc]

/-- A sum over 4096 terms, taken 1024 at a time. -/
theorem sum_quarters (g : Fin 4096 → EReal) :
    ∑ f, g f = (∑ f : Fin 1024, g ⟨f, by omega⟩) + (∑ f : Fin 1024, g ⟨1024 + f, by omega⟩)
      + (∑ f : Fin 1024, g ⟨2048 + f, by omega⟩) + ∑ f : Fin 1024, g ⟨3072 + f, by omega⟩ := by
  rw [Fin.sum_univ_two_halves 3072 1024 rfl g, Fin.sum_univ_two_halves 2048 1024 rfl,
    Fin.sum_univ_two_halves 1024 1024 rfl]

end Cert.Token

end
-- ==== Proof.Value.Block.lean ====
/-
  What one grid point stores, read at an index: row `t` of the point's 1024 tokens (512 of each half of the batch) goes
  a token's whole way, with the expert's hidden layer taken in four quarters of 1024 units, each from its own pair of
  weight chunks.
-/
module

public import proofs.«01_k».proof.Proof.KernelIdeal.Body
public import proofs.«01_k».proof.Proof.Value.Token

@[expose] public section

set_option maxRecDepth 16384

noncomputable section

namespace Cert.KernelIdeal.Hand

open Cert.KernelIdeal Cert.KernelIdeal.Gen Idealize.ShloMosaic Cert.Token

/-! ## Each stage at an index -/

section Stages
variable (x : FVec Ideal S2x1x512x1024 .f32) (ga be ba bn : FVec Ideal S1x1024 .f32) (wa wn : FVec Ideal S1024x1024 .f32)
  (a : FVec Ideal S1024x1024 .bf16) (o h : FVec Ideal S1024x1024 .f32) (u d : FVec Ideal S1x1024x1024 .f32)
  (b : FVec Ideal S1x1x1024 .f32)

/-- Row `t` of the point's tokens: row `t % 512` of half `t / 512`. -/
theorem rows_at (t k : Fin 1024) : k0_pay2 x (ix2 t k) = x (ix4 ⟨t / 512, by omega⟩ 0 ⟨t % 512, by omega⟩ k) := by
  pointwise [k0_pay2]

/-- The normalised, mixed row. -/
theorem mixed_at (t j : Fin 1024) :
    k0_pay4 (F := Ideal) (k0_pay2 x) (k0_pay3 x ga be wa ba) (ix2 t j)
      = mixed (fun k => k0_pay2 (F := Ideal) x (ix2 t k)) (fun k => ga (ix2 0 k)) (fun k => be (ix2 0 k)) (fun j k => wa (ix2 j k))
          (fun k => ba (ix2 0 k)) j := by
  unfold mixed normed mean spread
  generalize hX : k0_pay2 (F := Ideal) x = X
  pointwise [k0_pay3, k0_pay4, hX]
  rfl

/-- A quarter of the hidden layer, as the first chunk's, -/
theorem quarter0_at (t f : Fin 1024) : k0_pay5 a u b (ix2 t f)
    = hiddenUnit (fun k => a (ix2 t k)) (fun k f => u (ix3 0 k f)) (fun f => b (ix3 0 0 f)) f := by
  unfold hiddenUnit gelu
  pointwise [k0_pay5]
  rfl
/-- the second's, -/
theorem quarter1_at (t f : Fin 1024) : k0_pay7 a u b (ix2 t f)
    = hiddenUnit (fun k => a (ix2 t k)) (fun k f => u (ix3 0 k f)) (fun f => b (ix3 0 0 f)) f := quarter0_at a u b t f
/-- the third's, in two parts, -/
theorem quarter2_at (t f : Fin 1024) : k0_pay12 (k0_pay10 a u b) (k0_pay11 a u b) (ix2 t f)
    = hiddenUnit (fun k => a (ix2 t k)) (fun k f => u (ix3 0 k f)) (fun f => b (ix3 0 0 f)) f := quarter0_at a u b t f
/-- and the fourth's. -/
theorem quarter3_at (t f : Fin 1024) : k0_pay14 a u b (ix2 t f)
    = hiddenUnit (fun k => a (ix2 t k)) (fun k f => u (ix3 0 k f)) (fun f => b (ix3 0 0 f)) f := quarter0_at a u b t f

/-- The quarters' products, the first alone, -/
theorem part0_at (t j : Fin 1024) : k0_pay6 h d (ix2 t j) = ∑ f : Fin 1024, h (ix2 t f) * d (ix3 0 f j) := by
  pointwise [k0_pay6]
/-- the second added, -/
theorem part1_at (t j : Fin 1024) : k0_pay8 o h d (ix2 t j) = o (ix2 t j) + ∑ f : Fin 1024, h (ix2 t f) * d (ix3 0 f j) := by
  pointwise [k0_pay8]
/-- the third added, -/
theorem part2_at (t j : Fin 1024) : k0_pay13 o h d (ix2 t j) = o (ix2 t j) + ∑ f : Fin 1024, h (ix2 t f) * d (ix3 0 f j) := by
  pointwise [k0_pay13]
/-- and the fourth, with the expert's bias. -/
theorem part3_at (t j : Fin 1024) : k0_pay15 o h d b (ix2 t j)
    = o (ix2 t j) + (∑ f : Fin 1024, h (ix2 t f) * d (ix3 0 f j)) + b (ix3 0 0 j) := by
  pointwise [k0_pay15]

/-- The last layer, in the block's own index. -/
theorem last_at (p : Fin 2) (r : Fin 512) (j : Fin 1024) : k0_pay1 o wn bn (ix4 p 0 r j)
    = last (fun k => o (ix2 ⟨p * 512 + r, by omega⟩ k)) (fun j k => wn (ix2 j k)) (fun k => bn (ix2 0 k)) j := by
  unfold last gelu
  pointwise [k0_pay1]
  rfl

end Stages

/-! ## The block -/

/-- The bias row's `q`-th quarter. -/
theorem bias0_at (b1 : Vec Ideal S1x1x4096 .f32) (f : Fin 1024) : View.ld b1 b1Rect0 (ix3 0 0 f) = b1 (ix3 0 0 ⟨f, by omega⟩) := by
  pointwise [b1Rect0]
theorem bias1_at (b1 : Vec Ideal S1x1x4096 .f32) (f : Fin 1024) : View.ld b1 b1Rect1 (ix3 0 0 f) = b1 (ix3 0 0 ⟨1024 + f, by omega⟩) := by
  pointwise [b1Rect1]
theorem bias2_at (b1 : Vec Ideal S1x1x4096 .f32) (f : Fin 1024) : View.ld b1 b1Rect2 (ix3 0 0 f) = b1 (ix3 0 0 ⟨2048 + f, by omega⟩) := by
  pointwise [b1Rect2]
theorem bias3_at (b1 : Vec Ideal S1x1x4096 .f32) (f : Fin 1024) : View.ld b1 b1Rect3 (ix3 0 0 f) = b1 (ix3 0 0 ⟨3072 + f, by omega⟩) := by
  pointwise [b1Rect3]

/-- The stored block at an index is a token's whole way, given the expert's weights `up` and `dn` of which the chunks
    are the quarters. -/
theorem outBlk_at (x : FVec Ideal S2x1x512x1024 .f32) (ga be : FVec Ideal S1x1024 .f32) (wa : FVec Ideal S1024x1024 .f32)
    (ba : FVec Ideal S1x1024 .f32) (b1 : FVec Ideal S1x1x4096 .f32) (b2 : FVec Ideal S1x1x1024 .f32)
    (wn : FVec Ideal S1024x1024 .f32) (bn : FVec Ideal S1x1024 .f32) (u0 u1 u2 u3 d0 d1 d2 d3 : FVec Ideal S1x1024x1024 .f32)
    (up : Fin 1024 → Fin 4096 → EReal) (dn : Fin 4096 → Fin 1024 → EReal)
    (hu0 : ∀ k f : Fin 1024, u0 (ix3 0 k f) = up k ⟨f, by omega⟩) (hu1 : ∀ k f : Fin 1024, u1 (ix3 0 k f) = up k ⟨1024 + f, by omega⟩)
    (hu2 : ∀ k f : Fin 1024, u2 (ix3 0 k f) = up k ⟨2048 + f, by omega⟩) (hu3 : ∀ k f : Fin 1024, u3 (ix3 0 k f) = up k ⟨3072 + f, by omega⟩)
    (hd0 : ∀ f j : Fin 1024, d0 (ix3 0 f j) = dn ⟨f, by omega⟩ j) (hd1 : ∀ f j : Fin 1024, d1 (ix3 0 f j) = dn ⟨1024 + f, by omega⟩ j)
    (hd2 : ∀ f j : Fin 1024, d2 (ix3 0 f j) = dn ⟨2048 + f, by omega⟩ j) (hd3 : ∀ f j : Fin 1024, d3 (ix3 0 f j) = dn ⟨3072 + f, by omega⟩ j)
    (p : Fin 2) (r : Fin 512) (j : Fin 1024) :
    outBlk (F := Ideal) x ga be wa ba b1 b2 wn bn u0 u1 u2 u3 d0 d1 d2 d3 (ix4 p 0 r j)
      = token (fun k => x (ix4 p 0 r k)) (fun k => ga (ix2 0 k)) (fun k => be (ix2 0 k)) (fun j k => wa (ix2 j k))
          (fun k => ba (ix2 0 k)) up (fun f => b1 (ix3 0 0 f)) dn (fun k => b2 (ix3 0 0 k)) (fun j k => wn (ix2 j k))
          (fun k => bn (ix2 0 k)) j := by
  have hrow : (fun k => k0_pay2 (F := Ideal) x (ix2 ⟨p * 512 + r, by omega⟩ k)) = fun k => x (ix4 p 0 r k) := by
    funext k
    rw [rows_at]
    congr 1
    have e1 : (p.val * 512 + r.val) / 512 = p.val := by omega
    have e2 : (p.val * 512 + r.val) % 512 = r.val := by omega
    exact congrArg₂ (fun a b => ix4 a 0 b k) (Fin.ext e1) (Fin.ext e2)
  unfold outBlk token
  rw [last_at]
  congr 1
  funext k
  unfold expert
  rw [part3_at, part2_at, part1_at, part0_at, sum_quarters]
  simp only [quarter0_at, quarter1_at, quarter2_at, quarter3_at, mixed_at, hrow, hu0, hu1, hu2, hu3, hd0, hd1, hd2, hd3]
  refine congrArg (· + b2 (ix3 0 0 k)) (congrArg₂ (· + ·) (congrArg₂ (· + ·) (congrArg₂ (· + ·) ?_ ?_) ?_) ?_)
  · exact Finset.sum_congr rfl fun f _ => congrArg (· * dn ⟨f, _⟩ k)
      (hiddenUnit_part _ up _ _ (fun f => ⟨f, by omega⟩) (bias0_at b1) f)
  · exact Finset.sum_congr rfl fun f _ => congrArg (· * dn ⟨1024 + f, _⟩ k)
      (hiddenUnit_part _ up _ _ (fun f => ⟨1024 + f, by omega⟩) (bias1_at b1) f)
  · exact Finset.sum_congr rfl fun f _ => congrArg (· * dn ⟨2048 + f, _⟩ k)
      (hiddenUnit_part _ up _ _ (fun f => ⟨2048 + f, by omega⟩) (bias2_at b1) f)
  · exact Finset.sum_congr rfl fun f _ => congrArg (· * dn ⟨3072 + f, _⟩ k)
      (hiddenUnit_part _ up _ _ (fun f => ⟨3072 + f, by omega⟩) (bias3_at b1) f)

end Cert.KernelIdeal.Hand

end
-- ==== Proof.Value.Array.lean ====
/-
  The kernel's result as a whole: every token of the batch goes its whole way with its own expert's weights. The blocks
  of the ten arrays and the chunks of the two streamed weight arrays are read at an index; the eight stored blocks then
  cover the result.
-/
module

public import proofs.«01_k».proof.Proof.KernelIdeal.Run
public import proofs.«01_k».proof.Proof.Value.Block
public import Idealize.ShloMosaic.Lib.Pipeline.ValueKit
public import Idealize.ShloMosaic.Lib.Claim

@[expose] public section

set_option maxRecDepth 16384

noncomputable section

namespace Cert.KernelIdeal.Hand

open Cert.KernelIdeal Cert.KernelIdeal.Gen Idealize.ShloMosaic Idealize.ShloMosaic.TcCoe Cert.Token Idealize.SL.Sem

variable (m : (ℓ : Loc nD τ sig) → Buf (Elt Ideal) ℓ) (ρ : Dev nD → PrngReg) (c : Dev nD)

/-- An argument array as the launch finds it. -/
abbrev arg (b : Ref sig .tc) : Buf (Elt Ideal) ((c.tc : Thread nD τ).loc b) := m ((c.tc : Thread nD τ).loc b)

/-! ## The chunks at an index -/

/-- Chunk `4 e + q` of `W1` holds columns `1024 q` and on of expert `e`'s first weights. -/
theorem upWords_at (XU : Vec Ideal S8x1024x4096 .f32) (e : Fin 8) (q : Fin 4) (k f : Fin 1024) :
    sheet (upWords (F := Ideal) c XU (Ring.bk 32 (4 * e.val + q.val))) (ix3 0 k f) = XU (ix3 e k ⟨1024 * q + f, by omega⟩) := by
  have hb : (Ring.bk 32 (4 * e.val + q.val)).val = 4 * e.val + q.val := by rw [Ring.bk_val]; omega
  have hback : shapeCast S1024x1024 (fun i : S1x1024x1024.Idx => i) squeezes_S1x1024x1024_S1024x1024.numel_eq (ix2 k f) = ix3 0 k f := by pointwise
  have hin : sheet (upWords (F := Ideal) c XU (Ring.bk 32 (4 * e.val + q.val))) (ix3 0 k f)
      = upWords (F := Ideal) c XU (Ring.bk 32 (4 * e.val + q.val)) (ix2 k f) := by pointwise [sheet]
  rw [hin]
  have hread : upWords (F := Ideal) c XU (Ring.bk 32 (4 * e.val + q.val)) (ix2 k f)
      = XU ((Rect.unit (s := S8x1024x4096) (upOff (Ring.bk 32 (4 * e.val + q.val))) S1x1024x1024.size (upOff_inb _)).emb
          (shapeCast S1024x1024 (fun i : S1x1024x1024.Idx => i) squeezes_S1x1024x1024_S1024x1024.numel_eq (ix2 k f))) := rfl
  rw [hread, hback]
  congr 1
  funext a
  apply Fin.ext
  match a with
  | ⟨0, _⟩ => show (Ring.bk 32 (4 * e.val + q.val)).val / 4 + 1 * 0 = e.val; omega
  | ⟨1, _⟩ => show 0 + 1 * k.val = k.val; omega
  | ⟨2, _⟩ => show (Ring.bk 32 (4 * e.val + q.val)).val % 4 * 1024 + 1 * f.val = 1024 * q.val + f.val; omega

/-- Chunk `4 e + q` of `W2` holds rows `1024 q` and on of expert `e`'s second weights. -/
theorem dnWords_at (XD : Vec Ideal S8x4096x1024 .f32) (e : Fin 8) (q : Fin 4) (f j : Fin 1024) :
    sheet (dnWords (F := Ideal) c XD (Ring.bk 32 (4 * e.val + q.val))) (ix3 0 f j) = XD (ix3 e ⟨1024 * q + f, by omega⟩ j) := by
  have hb : (Ring.bk 32 (4 * e.val + q.val)).val = 4 * e.val + q.val := by rw [Ring.bk_val]; omega
  have hback : shapeCast S1024x1024 (fun i : S1x1024x1024.Idx => i) squeezes_S1x1024x1024_S1024x1024.numel_eq (ix2 f j) = ix3 0 f j := by pointwise
  have hin : sheet (dnWords (F := Ideal) c XD (Ring.bk 32 (4 * e.val + q.val))) (ix3 0 f j)
      = dnWords (F := Ideal) c XD (Ring.bk 32 (4 * e.val + q.val)) (ix2 f j) := by pointwise [sheet]
  rw [hin]
  have hread : dnWords (F := Ideal) c XD (Ring.bk 32 (4 * e.val + q.val)) (ix2 f j)
      = XD ((Rect.unit (s := S8x4096x1024) (dnOff (Ring.bk 32 (4 * e.val + q.val))) S1x1024x1024.size (dnOff_inb _)).emb
          (shapeCast S1024x1024 (fun i : S1x1024x1024.Idx => i) squeezes_S1x1024x1024_S1024x1024.numel_eq (ix2 f j))) := rfl
  rw [hread, hback]
  congr 1
  funext a
  apply Fin.ext
  match a with
  | ⟨0, _⟩ => show (Ring.bk 32 (4 * e.val + q.val)).val / 4 + 1 * 0 = e.val; omega
  | ⟨1, _⟩ => show (Ring.bk 32 (4 * e.val + q.val)).val % 4 * 1024 + 1 * f.val = 1024 * q.val + f.val; omega
  | ⟨2, _⟩ => show 0 + 1 * j.val = j.val; omega

/-! ## The arrays the region starts from -/

/-- The tokens, grouped by expert by a reshape of the host's; -/
theorem V_v0 : V m c main_v0 = shapeCast S2x8x512x1024 (arg m c main_arg0) shapeCasts_S2x4096x1024_S2x8x512x1024 := by
  entry_read; rfl
/-- the scale, the shift and the first bias, each made one row; -/
theorem V_v1 : V m c main_v1 = shapeCast S1x1024 (arg m c main_arg1) shapeCasts_S1024_S1x1024 := by entry_read; rfl
theorem V_v2 : V m c main_v2 = shapeCast S1x1024 (arg m c main_arg2) shapeCasts_S1024_S1x1024 := by entry_read; rfl
theorem V_v3 : V m c main_v3 = shapeCast S1x1024 (arg m c main_arg4) shapeCasts_S1024_S1x1024 := by entry_read; rfl
/-- the experts' two biases, each given an axis of one; -/
theorem V_v4 : V m c main_v4 = shapeCast S8x1x4096 (arg m c main_arg7) shapeCasts_S8x4096_S8x1x4096 := by entry_read; rfl
theorem V_v5 : V m c main_v5 = shapeCast S8x1x1024 (arg m c main_arg9) shapeCasts_S8x1024_S8x1x1024 := by entry_read; rfl
/-- and the last bias, made one row. -/
theorem V_v6 : V m c main_v6 = shapeCast S1x1024 (arg m c main_arg11) shapeCasts_S1024_S1x1024 := by entry_read; rfl

/-! ## The windows' blocks at an index -/

/-- Which block of its array a window holds at point `t`: expert `t`'s of the tokens, -/
theorem idx0 : ∀ t : Fin cfg0.N, win0_0.index t = ![0, t.val, 0, 0] :=
  (by decide +kernel : ∀ t : Fin grid0.N, _)
/-- of the first bias, -/
theorem idx5 : ∀ t : Fin cfg0.N, win0_5.index t = ![t.val, 0, 0] :=
  (by decide +kernel : ∀ t : Fin grid0.N, _)
/-- of the second bias -/
theorem idx6 : ∀ t : Fin cfg0.N, win0_6.index t = ![t.val, 0, 0] :=
  (by decide +kernel : ∀ t : Fin grid0.N, _)
/-- and of the result; -/
theorem idx9 : ∀ t : Fin cfg0.N, win0_9.index t = ![0, t.val, 0, 0] :=
  (by decide +kernel : ∀ t : Fin grid0.N, _)
/-- the whole array of the other six. -/
theorem idxs : ∀ t : Fin cfg0.N, win0_1.index t = ![0, 0] ∧ win0_2.index t = ![0, 0] ∧ win0_3.index t = ![0, 0]
    ∧ win0_4.index t = ![0, 0] ∧ win0_7.index t = ![0, 0] ∧ win0_8.index t = ![0, 0] :=
  (by decide +kernel : ∀ t : Fin grid0.N, _)

variable (t : Fin cfg0.N)

/-- The tokens of point `t`. -/
theorem blk0 (p : Fin 2) (r : Fin 512) (k : Fin 1024) :
    iblk m c 0 t (ix4 p 0 r k) = V m c main_v0 (ix4 p ⟨t.val, t.isLt⟩ r k) := by
  blk_simp [iblk]
  congr 1
  blk_ext [idx0 t]
/-- The windows that hold their whole array. -/
theorem blk1 : iblk m c 1 t = V m c main_v1 := by
  blk_ext! [iblk, (idxs t).1]
theorem blk2 : iblk m c 2 t = V m c main_v2 := by
  blk_ext! [iblk, (idxs t).2.1]
theorem blk3 : iblk m c 3 t = V m c main_arg3 := by
  blk_ext! [iblk, (idxs t).2.2.1]
theorem blk4 : iblk m c 4 t = V m c main_v3 := by
  blk_ext! [iblk, (idxs t).2.2.2.1]
theorem blk7 : iblk m c 7 t = V m c main_arg10 := by
  blk_ext! [iblk, (idxs t).2.2.2.2.1]
theorem blk8 : iblk m c 8 t = V m c main_v6 := by
  blk_ext! [iblk, (idxs t).2.2.2.2.2]
/-- Expert `t`'s biases. -/
theorem blk5 (f : Fin 4096) : iblk m c 5 t (ix3 0 0 f) = V m c main_v4 (ix3 ⟨t.val, t.isLt⟩ 0 f) := by
  blk_simp [iblk]
  congr 1
  blk_ext [idx5 t]
theorem blk6 (d : Fin 1024) : iblk m c 6 t (ix3 0 0 d) = V m c main_v5 (ix3 ⟨t.val, t.isLt⟩ 0 d) := by
  blk_simp [iblk]
  congr 1
  blk_ext [idx6 t]

/-! ## The stored blocks are the answer's -/

/-- The answer at the launch's arrays. -/
abbrev ans (p : Fin 2) (s : Fin 4096) (j : Fin 1024) : EReal :=
  answer (arg m c main_arg0) (arg m c main_arg1) (arg m c main_arg2) (arg m c main_arg3) (arg m c main_arg4) (arg m c main_arg6)
    (arg m c main_arg7) (arg m c main_arg8) (arg m c main_arg9) (arg m c main_arg10) (arg m c main_arg11) p s j

/-- Token `r` of expert `e`'s group, among a batch row's tokens. -/
abbrev tok (e : Fin 8) (r : Fin 512) : Fin 4096 := ⟨e.val * 512 + r.val, by omega⟩

/-- The owner of a token of expert `e`'s group is `e`. -/
theorem owner_tok (e : Fin 8) (r : Fin 512) : owner (tok e r) = e := Fin.ext (by show (e.val * 512 + r.val) / 512 = e.val; omega)

/-- The host's reshapes of the arguments, at an index. -/
theorem tokens_at (X : Vec Ideal S2x4096x1024 .f32) (p : Fin 2) (e : Fin 8) (r : Fin 512) (k : Fin 1024) :
    shapeCast S2x8x512x1024 X shapeCasts_S2x4096x1024_S2x8x512x1024 (ix4 p e r k) = X (ix3 p (tok e r) k) := by pointwise
theorem row_at (X : Vec Ideal S1024 .f32) (k : Fin 1024) : shapeCast S1x1024 X shapeCasts_S1024_S1x1024 (ix2 0 k) = X (ix1 k) := by
  pointwise
theorem rowUp_at (X : Vec Ideal S8x4096 .f32) (e : Fin 8) (f : Fin 4096) :
    shapeCast S8x1x4096 X shapeCasts_S8x4096_S8x1x4096 (ix3 e 0 f) = X (ix2 e f) := by pointwise
theorem rowDn_at (X : Vec Ideal S8x1024 .f32) (e : Fin 8) (f : Fin 1024) :
    shapeCast S8x1x1024 X shapeCasts_S8x1024_S8x1x1024 (ix3 e 0 f) = X (ix2 e f) := by pointwise

/-- What point `t` leaves in its output block. -/
theorem outs_at (p : Fin 2) (r : Fin 512) (j : Fin 1024) :
    outsAt m c t (ix4 p 0 r j) = ans m c p (tok ⟨t.val, t.isLt⟩ r) j := by
  have h0 : ∀ f : Fin 1024, (⟨1024 * (0 : Fin 4).val + f.val, by omega⟩ : Fin 4096) = ⟨f.val, by omega⟩ :=
    fun f => Fin.ext (by show 1024 * 0 + f.val = f.val; omega)
  unfold outsAt
  refine (outBlk_at _ _ _ _ _ _ _ _ _ _ _ _ _ _ _ _ _
    (fun k f => arg m c main_arg6 (ix3 ⟨t.val, t.isLt⟩ k f)) (fun f j => arg m c main_arg8 (ix3 ⟨t.val, t.isLt⟩ f j))
    (fun k f => (upWords_at c (XU m c) ⟨t.val, t.isLt⟩ 0 k f).trans ?_) (fun k f => (upWords_at c (XU m c) ⟨t.val, t.isLt⟩ 1 k f).trans ?_)
    (fun k f => (upWords_at c (XU m c) ⟨t.val, t.isLt⟩ 2 k f).trans ?_) (fun k f => (upWords_at c (XU m c) ⟨t.val, t.isLt⟩ 3 k f).trans ?_)
    (fun f j => (dnWords_at c (XD m c) ⟨t.val, t.isLt⟩ 0 f j).trans ?_) (fun f j => (dnWords_at c (XD m c) ⟨t.val, t.isLt⟩ 1 f j).trans ?_)
    (fun f j => (dnWords_at c (XD m c) ⟨t.val, t.isLt⟩ 2 f j).trans ?_) (fun f j => (dnWords_at c (XD m c) ⟨t.val, t.isLt⟩ 3 f j).trans ?_)
    p r j).trans ?_
  · rw [h0]; exact congrFun (V_main_arg6 m c) _
  · exact congrFun (V_main_arg6 m c) _
  · exact congrFun (V_main_arg6 m c) _
  · exact congrFun (V_main_arg6 m c) _
  · rw [h0]; exact congrFun (V_main_arg8 m c) _
  · exact congrFun (V_main_arg8 m c) _
  · exact congrFun (V_main_arg8 m c) _
  · exact congrFun (V_main_arg8 m c) _
  · unfold ans answer
    rw [owner_tok]
    have e0 : (fun k : Fin 1024 => iblk m c 0 t (ix4 p 0 r k)) = fun k => arg m c main_arg0 (ix3 p (tok ⟨t.val, t.isLt⟩ r) k) :=
      funext fun k => (blk0 m c t p r k).trans ((congrFun (V_v0 m c) _).trans (tokens_at _ p _ r k))
    have e1 : (fun k : Fin 1024 => iblk m c 1 t (ix2 0 k)) = fun k => arg m c main_arg1 (ix1 k) :=
      funext fun k => (congrFun ((blk1 m c t).trans (V_v1 m c)) _).trans (row_at _ k)
    have e2 : (fun k : Fin 1024 => iblk m c 2 t (ix2 0 k)) = fun k => arg m c main_arg2 (ix1 k) :=
      funext fun k => (congrFun ((blk2 m c t).trans (V_v2 m c)) _).trans (row_at _ k)
    have e3 : (fun j k : Fin 1024 => iblk m c 3 t (ix2 j k)) = fun j k => arg m c main_arg3 (ix2 j k) :=
      funext fun j => funext fun k => congrFun ((blk3 m c t).trans (V_main_arg3 m c)) _
    have e4 : (fun k : Fin 1024 => iblk m c 4 t (ix2 0 k)) = fun k => arg m c main_arg4 (ix1 k) :=
      funext fun k => (congrFun ((blk4 m c t).trans (V_v3 m c)) _).trans (row_at _ k)
    have e5 : (fun f : Fin 4096 => iblk m c 5 t (ix3 0 0 f)) = fun f => arg m c main_arg7 (ix2 ⟨t.val, t.isLt⟩ f) :=
      funext fun f => (blk5 m c t f).trans ((congrFun (V_v4 m c) _).trans (rowUp_at _ _ f))
    have e6 : (fun d : Fin 1024 => iblk m c 6 t (ix3 0 0 d)) = fun d => arg m c main_arg9 (ix2 ⟨t.val, t.isLt⟩ d) :=
      funext fun d => (blk6 m c t d).trans ((congrFun (V_v5 m c) _).trans (rowDn_at _ _ d))
    have e7 : (fun j k : Fin 1024 => iblk m c 7 t (ix2 j k)) = fun j k => arg m c main_arg10 (ix2 j k) :=
      funext fun j => funext fun k => congrFun ((blk7 m c t).trans (V_main_arg10 m c)) _
    have e8 : (fun k : Fin 1024 => iblk m c 8 t (ix2 0 k)) = fun k => arg m c main_arg11 (ix1 k) :=
      funext fun k => (congrFun ((blk8 m c t).trans (V_v6 m c)) _).trans (row_at _ k)
    exact congrFun (by rw [e0, e1, e2, e3, e4, e5, e6, e7, e8]) j

/-! ## The result -/

/-- The answer, laid out as the pipeline's result array. -/
def grouped : Vec Ideal S2x8x512x1024 .f32 := fun i => ans m c (i 0) (tok (i 1) (i 2)) (i 3)

/-- Point `t`'s output block holds the answer's entries of its expert's tokens. -/
theorem outs_grouped (y : S2x1x512x1024.Idx) : outsAt m c t y = grouped m c ((win0_9.blk t).view.emb y) := by
  obtain ⟨p, r, j, rfl⟩ : ∃ (p : Fin 2) (r : Fin 512) (j : Fin 1024), y = ix4 p 0 r j := ⟨y 0, y 2, y 3, funext fun a => by
    match a with
    | ⟨0, _⟩ => rfl
    | ⟨1, _⟩ => exact Fin.ext (Nat.lt_one_iff.mp (y 1).isLt)
    | ⟨2, _⟩ => rfl
    | ⟨3, _⟩ => rfl⟩
  have he : (win0_9.blk t).view.emb (ix4 p 0 r j : S2x1x512x1024.Idx) = (ix4 p ⟨t.val, t.isLt⟩ r j : S2x8x512x1024.Idx) := by
    blk_ext [idx9 t]
  rw [outs_at, he]
  rfl

/-- The pipeline's result array ends at the answer: the eight stored blocks cover it. -/
theorem final : (dats m 0 c).arrAt 9 cfg0.N = grouped m c := by
  refine (dats m 0 c).arrAt_eq_of_covers 9 _ (by decide +kernel) fun t hf y => ?_
  blk_simp
  rw [after_out]
  exact outs_grouped m c t y

/-- The kernel's result: the answer, its rows in the batch's order. -/
def result : Vec Ideal S2x4096x1024 .f32 := shapeCast S2x4096x1024 (grouped m c) shapeCasts_S2x8x512x1024_S2x4096x1024

/-- The result at an index. -/
theorem result_at (p : Fin 2) (s : Fin 4096) (j : Fin 1024) : result m c (ix3 p s j) = ans m c p s j := by
  have h (X : Vec Ideal S2x8x512x1024 .f32) : shapeCast S2x4096x1024 X shapeCasts_S2x8x512x1024_S2x4096x1024 (ix3 p s j)
      = X (ix4 p ⟨s.val / 512, by omega⟩ ⟨s.val % 512, by omega⟩ j) := by pointwise
  refine (h _).trans ?_
  show ans m c p (tok ⟨s.val / 512, _⟩ ⟨s.val % 512, _⟩) j = _
  congr 1
  exact Fin.ext (by show s.val / 512 * 512 + s.val % 512 = s.val; omega)

/-- The result buffer after the host line that follows the region. -/
theorem tail_result : Pipeline.afterTail₀ cfgs (dats m) 0 (V0 m) [hostOps1] c main_v8 = result m c := by
  have harr : Pipeline.withArrays spec0 c (V0 m c) (fun w => (dats m 0 c).arrAt w cfg0.N) (Proc.devRef .tc (Pipeline.arrRef spec0 9))
      = (dats m 0 c).arrAt 9 cfg0.N := Pipeline.withArrays_arr spec0 (by decide) c (V0 m c) _ 9
  unfold Pipeline.afterTail₀
  simp only [hostOps1, List.flatten_cons, List.flatten_nil, List.append_nil]
  after_results
  show shapeCast S2x4096x1024 (Pipeline.withArrays spec0 c (V0 m c) (fun w => (dats m 0 c).arrAt w cfg0.N)
    (Proc.devRef .tc (Pipeline.arrRef spec0 9))) shapeCasts_S2x8x512x1024_S2x4096x1024 = result m c
  rw [harr, final]
  rfl

/-- The kernel's run ends with the result at the answer. -/
theorem run_result : θ_run defs (onTc (τ := τ) (main (F := Ideal))) ⟨m, fun _ => 0, ρ⟩ (fun r =>
    ∀ c : Dev nD, r.2.mem ((c.tc : Thread nD τ).loc main_v8) = result m c) :=
  (θ_run defs _ _).mono (fun _ h c => ((h.1 c).2 main_v8 (Pipeline.mem_restRefs_of main_v8 (by decide) (by decide))).trans (tail_result m c))
    (run_main m ρ)

end Cert.KernelIdeal.Hand

end
-- ==== Proof.Value.Reference.lean ====
/-
  The reference's result at an index. The composed term of its operations is cut into the stages of its mathematics, each
  stage is read at an index, and the whole is a token's whole way.
-/
module

public import proofs.«01_k».proof.Proof.Gen.ReferenceIdeal.Run
public import proofs.«01_k».proof.Proof.Value.Token

@[expose] public section

set_option maxRecDepth 16384

noncomputable section

namespace Cert.ReferenceIdeal.Hand

open Cert.ReferenceIdeal Cert.ReferenceIdeal.Gen Idealize.ShloMosaic Idealize.ShloMosaic.TcCoe Cert.Token

/-! ## The stages -/

/-- A number in every row's one column. -/
abbrev col (b : BitVec 32) : FVec Ideal S8192x1 .f32 := broadcastInDim S8192x1 ![] bcast_S_S8192x1 (constant S_ .f32 b)
/-- A row vector repeated over all tokens. -/
abbrev rep (v : FVec Ideal S1024 .f32) : FVec Ideal S8192x1024 .f32 :=
  broadcastInDim S8192x1024 ![0, 1] bcast_S1x1024_S8192x1024_0_1 (broadcastInDim S1x1024 ![1] bcast_S1024_S1x1024_1 v)
/-- A column repeated along each row. -/
abbrev wide (v : FVec Ideal S8192x1 .f32) : FVec Ideal S8192x1024 .f32 := broadcastInDim S8192x1024 ![0, 1] bcast_S8192x1_S8192x1024_0_1 v
/-- A row's sum. -/
abbrev rowSum (x : FVec Ideal S8192x1024 .f32) : FVec Ideal S8192x1 .f32 :=
  broadcastInDim S8192x1 ![0] bcast_S8192_S8192x1_0 (Host.reduceAdd x (constant S_ .f32 0x00000000#32) reducesTo_S8192x1024_S8192_d1 h_S_)

/-- The rows' means. -/
def means (x : FVec Ideal S8192x1024 .f32) : FVec Ideal S8192x1 .f32 := Host.divf (rowSum x) (col 0x44800000#32)
/-- What the squares are divided by: the width less the integer zero. -/
abbrev denom : FVec Ideal S_ .f32 := subf (constant S_ .f32 0x44800000#32) (sitofp .f32 (constantI S_ 32 0#32))
/-- The rows' variances, where the divisor is above zero. -/
def vars (x : FVec Ideal S8192x1024 .f32) : FVec Ideal S8192x1 .f32 :=
  select (broadcastInDim S8192x1 ![] bcast_S_S8192x1 (cmpf .ogt denom (constant S_ .f32 0x00000000#32)))
    (Host.divf (rowSum (mulf (subf x (wide (means x))) (subf x (wide (means x))))) (broadcastInDim S8192x1 ![] bcast_S_S8192x1 denom))
    (broadcastInDim S8192x1 ![] bcast_S_S8192x1 (id (constant S_ .f32 0x7FC00000#32)))
/-- The rows normalised. -/
def norms (x : FVec Ideal S8192x1024 .f32) (ga be : FVec Ideal S1024 .f32) : FVec Ideal S8192x1024 .f32 :=
  addf (mulf (Host.divf (subf x (wide (means x))) (wide (Host.sqrt (addf (vars x) (col 0x3727C5AC#32))))) (rep ga)) (rep be)
/-- A linear map of every row, by the transposed weights, and its bias. -/
def linear (x : FVec Ideal S8192x1024 .f32) (w : FVec Ideal S1024x1024 .f32) (b : FVec Ideal S1024 .f32) : FVec Ideal S8192x1024 .f32 :=
  addf (Host.dotGeneral dot_S8192x1024_S1024x1024_S8192x1024_1_0_0_1_n_n none x (transpose S1024x1024 [1, 0] w transposes_S1024x1024_S1024x1024_1_0)) (rep b)
/-- The rows after the first linear map and the residual, grouped by expert. -/
def mixes (x : FVec Ideal S8192x1024 .f32) (ga be : FVec Ideal S1024 .f32) (wa : FVec Ideal S1024x1024 .f32) (ba : FVec Ideal S1024 .f32) :
    FVec Ideal S2x8x512x1024 .f32 :=
  shapeCast _ (addf (linear (norms x ga be) wa ba) x) shapeCasts_S8192x1024_S2x8x512x1024
/-- The experts' first linear map. -/
def ups (a : FVec Ideal S2x8x512x1024 .f32) (w : FVec Ideal S8x1024x4096 .f32) (b : FVec Ideal S8x4096 .f32) : FVec Ideal S2x8x512x4096 .f32 :=
  addf (transpose S2x8x512x4096 [2, 0, 3, 1] (Host.dotGeneral dot_S8x1024x4096_S2x8x512x1024_S8x4096x2x512_1_3_2_02_0_1 none w a) transposes_S8x4096x2x512_S2x8x512x4096_2_0_3_1)
    (broadcastInDim S2x8x512x4096 ![0, 1, 2, 3] bcast_S1x8x1x4096_S2x8x512x4096_0_1_2_3 (broadcastInDim S1x8x1x4096 ![1, 3] bcast_S8x4096_S1x8x1x4096_1_3 b))
/-- The gelu of the hidden layer. -/
def gelus (y : FVec Ideal S2x8x512x4096 .f32) : FVec Ideal S2x8x512x4096 .f32 :=
  mulf (mulf (broadcastInDim S2x8x512x4096 ![] bcast_S_S2x8x512x4096 (constant S_ .f32 0x3F000000#32)) y)
    (Host.erfc (mulf (Host.negf y) (broadcastInDim S2x8x512x4096 ![] bcast_S_S2x8x512x4096 (constant S_ .f32 0x3F3504F3#32))))
/-- The experts' second linear map, the rows in the tokens' order again. -/
def downs (h : FVec Ideal S2x8x512x4096 .f32) (w : FVec Ideal S8x4096x1024 .f32) (b : FVec Ideal S8x1024 .f32) : FVec Ideal S8192x1024 .f32 :=
  shapeCast _ (addf (transpose S2x8x512x1024 [2, 0, 3, 1] (Host.dotGeneral dot_S8x4096x1024_S2x8x512x4096_S8x1024x2x512_1_3_2_02_0_1 none w h) transposes_S8x1024x2x512_S2x8x512x1024_2_0_3_1)
    (broadcastInDim S2x8x512x1024 ![0, 1, 2, 3] bcast_S1x8x1x1024_S2x8x512x1024_0_1_2_3 (broadcastInDim S1x8x1x1024 ![1, 3] bcast_S8x1024_S1x8x1x1024_1_3 b)))
    shapeCasts_S2x8x512x1024_S8192x1024
/-- The gelu of the last layer. -/
def lastGelu (z : FVec Ideal S8192x1024 .f32) : FVec Ideal S8192x1024 .f32 :=
  mulf (mulf (broadcastInDim S8192x1024 ![] bcast_S_S8192x1024 (constant S_ .f32 0x3F000000#32)) z)
    (Host.erfc (mulf (Host.negf z) (broadcastInDim S8192x1024 ![] bcast_S_S8192x1024 (constant S_ .f32 0x3F3504F3#32))))

/-- The reference's result, by its stages. -/
def refResult (x : FVec Ideal S2x4096x1024 .f32) (ga be : FVec Ideal S1024 .f32) (wa : FVec Ideal S1024x1024 .f32) (ba : FVec Ideal S1024 .f32)
    (up : FVec Ideal S8x1024x4096 .f32) (b1 : FVec Ideal S8x4096 .f32) (dn : FVec Ideal S8x4096x1024 .f32) (b2 : FVec Ideal S8x1024 .f32)
    (wn : FVec Ideal S1024x1024 .f32) (bn : FVec Ideal S1024 .f32) : FVec Ideal S2x4096x1024 .f32 :=
  shapeCast _ (lastGelu (linear (downs (gelus (ups (mixes (shapeCast _ x shapeCasts_S2x4096x1024_S8192x1024) ga be wa ba) up b1)) dn b2) wn bn))
    shapeCasts_S8192x1024_S2x4096x1024

set_option maxHeartbeats 1000000 in
/-- The composed term is the stages'. -/
theorem res_eq (m : (ℓ : Loc nD τ sig) → Buf (Elt Ideal) ℓ) (c : Dev nD) :
    Value.res_main_v58 m c = refResult (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) (m ((c.tc : Thread nD τ).loc main_arg11)) := by
  unfold Value.res_main_v58 refResult lastGelu linear downs gelus ups mixes linear norms vars means
  rfl

/-! ## The stages at an index -/

/-- A row's mean. -/
theorem means_at (x : FVec Ideal S8192x1024 .f32) (t : Fin 8192) : means x (ix2 t 0) = mean (fun k => x (ix2 t k)) := by
  unfold mean
  pointwise [means]

/-- The integer zero as a float is zero. -/
theorem zero_int : (FloatOps.sitofp FTy.f32 (0#32 : BitVec 32) : Ideal .f32) = (0 : EReal) := by
  show (((0#32 : BitVec 32).toInt : ℝ) : EReal) = 0
  simp

/-- A row's variance: the divisor is the width, which is above zero. -/
theorem vars_at (x : FVec Ideal S8192x1024 .f32) (t : Fin 8192) : vars x (ix2 t 0) = spread (fun k => x (ix2 t k)) := by
  unfold spread
  pointwise [vars]
  rw [zero_int, sub_zero, if_pos width_pos, means_at]

/-- A normalised row is the kernel's: above zero, dividing by the root is multiplying by the inverse root. -/
theorem norms_at (x : FVec Ideal S8192x1024 .f32) (ga be : FVec Ideal S1024 .f32) (t : Fin 8192) (k : Fin 1024) :
    norms x ga be (ix2 t k) = normed (fun k => x (ix2 t k)) (fun k => ga (ix1 k)) (fun k => be (ix1 k)) k := by
  unfold normed
  rw [← div_sqrt _ _ (spread_eps_pos _), ← means_at, ← vars_at]
  pointwise [norms]

/-- A linear map of a row. -/
theorem linear_at (x : FVec Ideal S8192x1024 .f32) (w : FVec Ideal S1024x1024 .f32) (b : FVec Ideal S1024 .f32) (t : Fin 8192) (j : Fin 1024) :
    linear x w b (ix2 t j) = (∑ k : Fin 1024, x (ix2 t k) * w (ix2 j k)) + b (ix1 j) := by
  pointwise [linear]

/-- A hidden unit before its gelu. -/
theorem ups_at (a : FVec Ideal S2x8x512x1024 .f32) (w : FVec Ideal S8x1024x4096 .f32) (b : FVec Ideal S8x4096 .f32)
    (p : Fin 2) (e : Fin 8) (r : Fin 512) (f : Fin 4096) :
    ups a w b (ix4 p e r f) = (∑ k : Fin 1024, w (ix3 e k f) * a (ix4 p e r k)) + b (ix2 e f) := by
  pointwise [ups]

/-- The hidden gelu. -/
theorem gelus_at (y : FVec Ideal S2x8x512x4096 .f32) (p : Fin 2) (e : Fin 8) (r : Fin 512) (f : Fin 4096) :
    gelus y (ix4 p e r f) = gelu (y (ix4 p e r f)) := by
  rw [← gelu_erfc]
  pointwise [gelus]

/-- The last gelu. -/
theorem lastGelu_at (z : FVec Ideal S8192x1024 .f32) (t : Fin 8192) (j : Fin 1024) :
    lastGelu z (ix2 t j) = gelu (z (ix2 t j)) := by
  rw [← gelu_erfc]
  pointwise [lastGelu]

/-- A unit of an expert's result at a token: which expert, and where in its group, follows from the token's number. -/
theorem downs_at (h : FVec Ideal S2x8x512x4096 .f32) (w : FVec Ideal S8x4096x1024 .f32) (b : FVec Ideal S8x1024 .f32)
    (t : Fin 8192) (d : Fin 1024) :
    downs h w b (ix2 t d) = (∑ f : Fin 4096, w (ix3 ⟨t.val / 512 % 8, by omega⟩ f d) * h (ix4 ⟨t.val / 4096, by omega⟩ ⟨t.val / 512 % 8, by omega⟩ ⟨t.val % 512, by omega⟩ f)) + b (ix2 ⟨t.val / 512 % 8, by omega⟩ d) := by
  pointwise [downs]

/-- The mixed row of a token of an expert's group. -/
theorem mixes_at (x : FVec Ideal S8192x1024 .f32) (ga be : FVec Ideal S1024 .f32) (wa : FVec Ideal S1024x1024 .f32) (ba : FVec Ideal S1024 .f32)
    (p : Fin 2) (e : Fin 8) (r : Fin 512) (j : Fin 1024) :
    mixes x ga be wa ba (ix4 p e r j) = mixed (fun k => x (ix2 ⟨p.val * 4096 + e.val * 512 + r.val, by omega⟩ k)) (fun k => ga (ix1 k))
      (fun k => be (ix1 k)) (fun j k => wa (ix2 j k)) (fun k => ba (ix1 k)) j := by
  unfold mixed
  pointwise [mixes, linear_at, norms_at]

/-! ## The result at an index -/

/-- Token `s` of batch row `p`, among all tokens. -/
abbrev place (p : Fin 2) (s : Fin 4096) : Fin 8192 := ⟨p.val * 4096 + s.val, by omega⟩
/-- Its place in its expert's group. -/
abbrev within (s : Fin 4096) : Fin 512 := ⟨s.val % 512, by omega⟩

/-- `downs_at` at a token of a batch row, its expert named. -/
theorem downs_token (h : FVec Ideal S2x8x512x4096 .f32) (w : FVec Ideal S8x4096x1024 .f32) (b : FVec Ideal S8x1024 .f32)
    (p : Fin 2) (s : Fin 4096) (d : Fin 1024) :
    downs h w b (ix2 (place p s) d)
      = (∑ f : Fin 4096, w (ix3 (owner s) f d) * h (ix4 p (owner s) (within s) f)) + b (ix2 (owner s) d) := by
  have e : (⟨(place p s).val / 512 % 8, by omega⟩ : Fin 8) = owner s := Fin.ext (by show (p.val * 4096 + s.val) / 512 % 8 = s.val / 512; omega)
  have e' : (⟨(place p s).val / 4096, by omega⟩ : Fin 2) = p := Fin.ext (by show (p.val * 4096 + s.val) / 4096 = p.val; omega)
  have e'' : (⟨(place p s).val % 512, by omega⟩ : Fin 512) = within s := Fin.ext (by show (p.val * 4096 + s.val) % 512 = s.val % 512; omega)
  rw [downs_at, e, e', e'']

/-- `mixes_at` at a token of a batch row. -/
theorem mixes_token (x : FVec Ideal S2x4096x1024 .f32) (ga be : FVec Ideal S1024 .f32) (wa : FVec Ideal S1024x1024 .f32) (ba : FVec Ideal S1024 .f32)
    (p : Fin 2) (s : Fin 4096) (j : Fin 1024) :
    mixes (shapeCast S8192x1024 x shapeCasts_S2x4096x1024_S8192x1024) ga be wa ba (ix4 p (owner s) (within s) j)
      = mixed (fun k => x (ix3 p s k)) (fun k => ga (ix1 k)) (fun k => be (ix1 k)) (fun j k => wa (ix2 j k)) (fun k => ba (ix1 k)) j := by
  have e : (⟨p.val * 4096 + (owner s).val * 512 + (within s).val, by omega⟩ : Fin 8192) = place p s :=
    Fin.ext (by show p.val * 4096 + s.val / 512 * 512 + s.val % 512 = p.val * 4096 + s.val; omega)
  have ex (k : Fin 1024) : shapeCast S8192x1024 x shapeCasts_S2x4096x1024_S8192x1024 (ix2 (place p s) k) = x (ix3 p s k) := by
    have e1 : (⟨(place p s).val / 4096, by omega⟩ : Fin 2) = p := Fin.ext (by show (p.val * 4096 + s.val) / 4096 = p.val; omega)
    have e2 : (⟨(place p s).val % 4096, by omega⟩ : Fin 4096) = s := Fin.ext (by show (p.val * 4096 + s.val) % 4096 = s.val; omega)
    have h (t : Fin 8192) : shapeCast S8192x1024 x shapeCasts_S2x4096x1024_S8192x1024 (ix2 t k)
        = x (ix3 ⟨t.val / 4096, by omega⟩ ⟨t.val % 4096, by omega⟩ k) := by pointwise
    rw [h, e1, e2]
  rw [mixes_at, e]
  simp only [ex]

/-- The reference's result at an index is a token's whole way. The reference multiplies the experts' weights from the
    left, the kernel from the right. -/
theorem refResult_at (x : FVec Ideal S2x4096x1024 .f32) (ga be : FVec Ideal S1024 .f32) (wa : FVec Ideal S1024x1024 .f32) (ba : FVec Ideal S1024 .f32)
    (up : FVec Ideal S8x1024x4096 .f32) (b1 : FVec Ideal S8x4096 .f32) (dn : FVec Ideal S8x4096x1024 .f32) (b2 : FVec Ideal S8x1024 .f32)
    (wn : FVec Ideal S1024x1024 .f32) (bn : FVec Ideal S1024 .f32) (p : Fin 2) (s : Fin 4096) (j : Fin 1024) :
    refResult x ga be wa ba up b1 dn b2 wn bn (ix3 p s j) = answer x ga be wa ba up b1 dn b2 wn bn p s j := by
  have hcast (z : FVec Ideal S8192x1024 .f32) : shapeCast S2x4096x1024 z shapeCasts_S8192x1024_S2x4096x1024 (ix3 p s j) = z (ix2 (place p s) j) := by
    pointwise
  have hunit (f : Fin 4096) : gelus (ups (mixes (shapeCast S8192x1024 x shapeCasts_S2x4096x1024_S8192x1024) ga be wa ba) up b1) (ix4 p (owner s) (within s) f)
      = hiddenUnit (mixed (fun k => x (ix3 p s k)) (fun k => ga (ix1 k)) (fun k => be (ix1 k)) (fun j k => wa (ix2 j k)) (fun k => ba (ix1 k)))
          (fun k f => up (ix3 (owner s) k f)) (fun f => b1 (ix2 (owner s) f)) f := by
    unfold hiddenUnit
    rw [gelus_at, ups_at]
    simp only [mixes_token, mul_comm (up _)]
  unfold refResult answer token last expert
  rw [hcast, lastGelu_at, linear_at]
  simp only [downs_token, hunit, mul_comm (dn _)]

end Cert.ReferenceIdeal.Hand

end
-- ==== Proof.Value.Agree.lean ====
/-
  The kernel's result and the reference's, from memories that agree on the arguments, are one array.
-/
module

public import proofs.«01_k».proof.Proof.Value.Array
public import proofs.«01_k».proof.Proof.Value.Reference

@[expose] public section

noncomputable section

namespace Cert.Agree

open Idealize.ShloMosaic Idealize.ShloMosaic.TcCoe Cert.Token

/-- Both results are the answer, index by index. -/
theorem results (m : (ℓ : Loc KernelIdeal.nD KernelIdeal.τ KernelIdeal.sig) → Buf (Elt Ideal) ℓ) (c : Dev KernelIdeal.nD) :
    ReferenceIdeal.Hand.refResult (KernelIdeal.Hand.arg m c KernelIdeal.main_arg0) (KernelIdeal.Hand.arg m c KernelIdeal.main_arg1)
      (KernelIdeal.Hand.arg m c KernelIdeal.main_arg2) (KernelIdeal.Hand.arg m c KernelIdeal.main_arg3) (KernelIdeal.Hand.arg m c KernelIdeal.main_arg4)
      (KernelIdeal.Hand.arg m c KernelIdeal.main_arg6) (KernelIdeal.Hand.arg m c KernelIdeal.main_arg7) (KernelIdeal.Hand.arg m c KernelIdeal.main_arg8)
      (KernelIdeal.Hand.arg m c KernelIdeal.main_arg9) (KernelIdeal.Hand.arg m c KernelIdeal.main_arg10) (KernelIdeal.Hand.arg m c KernelIdeal.main_arg11)
      = KernelIdeal.Hand.result m c := funext fun i => by
  obtain ⟨p, s, j, rfl⟩ : ∃ (p : Fin 2) (s : Fin 4096) (j : Fin 1024), i = ix3 p s j := ⟨i 0, i 1, i 2, funext fun a => by
    match a with
    | ⟨0, _⟩ => rfl
    | ⟨1, _⟩ => rfl
    | ⟨2, _⟩ => rfl⟩
  exact (ReferenceIdeal.Hand.refResult_at _ _ _ _ _ _ _ _ _ _ _ p s j).trans (KernelIdeal.Hand.result_at m c p s j).symm

end Cert.Agree

end
-- ==== Proof.lean ====
/-
  The certificate: the kernel and its idealization run, leave their arguments unchanged and every semaphore counter at
  zero; so does the reference; and over the extended reals the kernel's result and the reference's are equal.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Value.Agree
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, its arguments end as launched; it has no semaphore. -/
theorem quiet_reference : Cert.quiescent_ReferenceIdeal := fun m g _ =>
  (θ_run _ _ _).mono (fun r h => ⟨fun c => (h c).2, sem_eq_zero_of_no_sems (by decide) r.2⟩) (ReferenceIdeal.Value.run m g)

/-- The kernel's result and the reference's are equal over the extended reals. -/
theorem equal : Cert.algebraic_KernelIdeal_ReferenceIdeal := by
  intro m g m' g' _ hag
  refine ⟨fun c => KernelIdeal.Hand.result m c, ?_, ?_⟩
  · exact (θ_run _ _ _).mono (fun r h c => ⟨h.1 c, h.2.1 c⟩)
      (θ_run_and (KernelIdeal.Hand.run_result m g) (KernelIdeal.Hand.frame m g))
  · refine (θ_run _ _ _).mono (fun r h c => ⟨(h c).1.trans ?_, (h c).2⟩) (ReferenceIdeal.Value.run m' g')
    obtain ⟨h0, h1, h2, h3, h4, _, h6, h7, h8, h9, h10, h11⟩ := hag c
    rw [ReferenceIdeal.Hand.res_eq, h0, h1, h2, h3, h4, h6, h7, h8, h9, h10, h11]
    exact Agree.results m c

/-- The five claims: the three frames, the idealization without a rewrite, and the equality of the results. -/
theorem claim : Cert.Claim := ⟨Cert.Kernel.Gen.facts, Cert.KernelIdeal.Gen.facts, Cert.ReferenceIdeal.Gen.facts,
  fun m g _ => Kernel.Hand.frame m g, fun m g _ => KernelIdeal.Hand.frame m g, quiet_reference, trivial, equal⟩

end Cert.Proof

end
